-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.sign_bit.Statement Cert.KernelIdeal.S32x128 .f32
  ∧ IdealRules.named_const.Statement Cert.KernelIdeal.κ "inv_pi" .f32 0x3EA2F983#32 ((Real.pi⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S131072x256 : Shape := ⟨2, ![131072, 256]⟩
abbrev S1x128 : Shape := ⟨2, ![1, 128]⟩
abbrev S4096x256 : Shape := ⟨2, ![4096, 256]⟩
abbrev S4096x128 : Shape := ⟨2, ![4096, 128]⟩
abbrev S128x128 : Shape := ⟨2, ![128, 128]⟩
abbrev S128 : Shape := ⟨1, ![128]⟩
abbrev S32x128 : Shape := ⟨2, ![32, 128]⟩
abbrev S1x32x128 : Shape := ⟨3, ![1, 32, 128]⟩
abbrev S1 : Shape := ⟨1, ![1]⟩
abbrev S1x1x1 : Shape := ⟨3, ![1, 1, 1]⟩
abbrev S1x1 : Shape := ⟨2, ![1, 1]⟩
abbrev S_ : Shape := ⟨0, ![]⟩

abbrev nBuf : Space → Nat
  | .hbm => 9
  | .vmem => 13
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x256, .f32⟩
  | .hbm, ⟨3, _⟩ => ⟨S131072x256, .f32⟩
  | .hbm, ⟨4, _⟩ => ⟨S131072x256, .f32⟩
  | .hbm, ⟨5, _⟩ => ⟨S131072x256, .f32⟩
  | .hbm, ⟨6, _⟩ => ⟨S1x128, .f32⟩
  | .hbm, ⟨7, _⟩ => ⟨S1x1, .f32⟩
  | .hbm, ⟨8, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4096x256, .f32⟩
  | .local _ .vmem, ⟨11, _⟩ => ⟨S4096x256, .f32⟩
  | .local _ .vmem, ⟨12, _⟩ => ⟨S1x128, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "inv_pi" => some ((Real.pi⁻¹ : ℝ) : EReal)
  | _ => none
-- ==== ReferenceIdeal.lean ====
abbrev S131072x256 : Shape := ⟨2, ![131072, 256]⟩
abbrev S_ : Shape := ⟨0, ![]⟩
abbrev S131072 : Shape := ⟨1, ![131072]⟩

abbrev nBuf : Space → Nat
  | .hbm => 182
  | .vmem => 0
  | .smem => 0
  | _ => 0

abbrev hbmTy0_0 (i : Nat) : BufTy := match i % 128 with
  | 0 => ⟨S131072x256, .f32⟩
  | 1 => ⟨S131072x256, .f32⟩
  | 2 => ⟨S131072x256, .f32⟩
  | 3 => ⟨S131072x256, .f32⟩
  | 4 => ⟨S131072x256, .f32⟩
  | 5 => ⟨S131072x256, .f32⟩
  | 6 => ⟨S131072x256, .f32⟩
  | 7 => ⟨S131072x256, .f32⟩
  | 8 => ⟨S131072x256, .f32⟩
  | 9 => ⟨S_, .f32⟩
  | 10 => ⟨S131072, .f32⟩
  | 11 => ⟨S131072x256, .f32⟩
  | 12 => ⟨S131072x256, .f32⟩
  | 13 => ⟨S131072x256, .f32⟩
  | 14 => ⟨S_, .f32⟩
  | 15 => ⟨S131072, .f32⟩
  | 16 => ⟨S131072x256, .f32⟩
  | 17 => ⟨S131072x256, .f32⟩
  | 18 => ⟨S131072x256, .f32⟩
  | 19 => ⟨S131072x256, .f32⟩
  | 20 => ⟨S131072x256, .f32⟩
  | 21 => ⟨S_, .f32⟩
  | 22 => ⟨S131072, .f32⟩
  | 23 => ⟨S131072, .f32⟩
  | 24 => ⟨S_, .f32⟩
  | 25 => ⟨S131072, .f32⟩
  | 26 => ⟨S131072, .f32⟩
  | 27 => ⟨S131072x256, .f32⟩
  | 28 => ⟨S131072x256, .f32⟩
  | 29 => ⟨S131072x256, .f32⟩
  | 30 => ⟨S131072x256, .f32⟩
  | 31 => ⟨S131072x256, .f32⟩
  | 32 => ⟨S_, .f32⟩
  | 33 => ⟨S131072, .f32⟩
  | 34 => ⟨S131072, .f32⟩
  | 35 => ⟨S_, .f32⟩
  | 36 => ⟨S131072, .f32⟩
  | 37 => ⟨S131072, .f32⟩
  | 38 => ⟨S131072, .f32⟩
  | 39 => ⟨S131072, .f32⟩
  | 40 => ⟨S131072, .f32⟩
  | 41 => ⟨S131072, .f32⟩
  | 42 => ⟨S131072, .f32⟩
  | 43 => ⟨S131072, .f32⟩
  | 44 => ⟨S131072, .f32⟩
  | 45 => ⟨S_, .f32⟩
  | 46 => ⟨S131072, .f32⟩
  | 47 => ⟨S131072, .f32⟩
  | 48 => ⟨S131072, .f32⟩
  | 49 => ⟨S131072, .f32⟩
  | 50 => ⟨S131072, .f32⟩
  | 51 => ⟨S131072, .f32⟩
  | 52 => ⟨S131072, .f32⟩
  | 53 => ⟨S131072, .f32⟩
  | 54 => ⟨S131072, .f32⟩
  | 55 => ⟨S131072, .f32⟩
  | 56 => ⟨S131072, .f32⟩
  | 57 => ⟨S131072, .f32⟩
  | 58 => ⟨S_, .f32⟩
  | 59 => ⟨S131072, .f32⟩
  | 60 => ⟨S131072, .f32⟩
  | 61 => ⟨S131072, .f32⟩
  | 62 => ⟨S131072, .f32⟩
  | 63 => ⟨S131072, .f32⟩
  | 64 => ⟨S131072, .f32⟩
  | 65 => ⟨S131072, .f32⟩
  | 66 => ⟨S131072, .f32⟩
  | 67 => ⟨S131072, .f32⟩
  | 68 => ⟨S131072, .f32⟩
  | 69 => ⟨S131072, .f32⟩
  | 70 => ⟨S131072, .f32⟩
  | 71 => ⟨S131072, .f32⟩
  | 72 => ⟨S131072, .f32⟩
  | 73 => ⟨S131072, .f32⟩
  | 74 => ⟨S_, .f32⟩
  | 75 => ⟨S_, .f32⟩
  | 76 => ⟨S_, .f32⟩
  | 77 => ⟨S_, .f32⟩
  | 78 => ⟨S131072, .f32⟩
  | 79 => ⟨S131072, .f32⟩
  | 80 => ⟨S_, .f32⟩
  | 81 => ⟨S131072, .f32⟩
  | 82 => ⟨S131072, .f32⟩
  | 83 => ⟨S131072x256, .f32⟩
  | 84 => ⟨S131072x256, .f32⟩
  | 85 => ⟨S131072x256, .f32⟩
  | 86 => ⟨S_, .f32⟩
  | 87 => ⟨S131072, .f32⟩
  | 88 => ⟨S131072x256, .f32⟩
  | 89 => ⟨S131072x256, .f32⟩
  | 90 => ⟨S131072x256, .f32⟩
  | 91 => ⟨S_, .f32⟩
  | 92 => ⟨S131072, .f32⟩
  | 93 => ⟨S131072x256, .f32⟩
  | 94 => ⟨S131072x256, .f32⟩
  | 95 => ⟨S131072x256, .f32⟩
  | 96 => ⟨S131072x256, .f32⟩
  | 97 => ⟨S131072x256, .f32⟩
  | 98 => ⟨S_, .f32⟩
  | 99 => ⟨S131072, .f32⟩
  | 100 => ⟨S131072, .f32⟩
  | 101 => ⟨S_, .f32⟩
  | 102 => ⟨S131072, .f32⟩
  | 103 => ⟨S131072, .f32⟩
  | 104 => ⟨S131072x256, .f32⟩
  | 105 => ⟨S131072x256, .f32⟩
  | 106 => ⟨S131072x256, .f32⟩
  | 107 => ⟨S131072x256, .f32⟩
  | 108 => ⟨S131072x256, .f32⟩
  | 109 => ⟨S_, .f32⟩
  | 110 => ⟨S131072, .f32⟩
  | 111 => ⟨S131072, .f32⟩
  | 112 => ⟨S_, .f32⟩
  | 113 => ⟨S131072, .f32⟩
  | 114 => ⟨S131072, .f32⟩
  | 115 => ⟨S131072, .f32⟩
  | 116 => ⟨S131072, .f32⟩
  | 117 => ⟨S131072, .f32⟩
  | 118 => ⟨S131072, .f32⟩
  | 119 => ⟨S131072, .f32⟩
  | 120 => ⟨S131072, .f32⟩
  | 121 => ⟨S131072, .f32⟩
  | 122 => ⟨S_, .f32⟩
  | 123 => ⟨S131072, .f32⟩
  | 124 => ⟨S131072, .f32⟩
  | 125 => ⟨S131072, .f32⟩
  | 126 => ⟨S131072, .f32⟩
  | 127 => ⟨S131072, .f32⟩
  | _ => ⟨S131072x256, .f32⟩

abbrev hbmTy0_1 (i : Nat) : BufTy := match i % 128 with
  | 0 => ⟨S131072, .f32⟩
  | 1 => ⟨S131072, .f32⟩
  | 2 => ⟨S131072, .f32⟩
  | 3 => ⟨S131072, .f32⟩
  | 4 => ⟨S131072, .f32⟩
  | 5 => ⟨S131072, .f32⟩
  | 6 => ⟨S131072, .f32⟩
  | 7 => ⟨S_, .f32⟩
  | 8 => ⟨S131072, .f32⟩
  | 9 => ⟨S131072, .f32⟩
  | 10 => ⟨S131072, .f32⟩
  | 11 => ⟨S131072, .f32⟩
  | 12 => ⟨S131072, .f32⟩
  | 13 => ⟨S131072, .f32⟩
  | 14 => ⟨S131072, .f32⟩
  | 15 => ⟨S131072, .f32⟩
  | 16 => ⟨S131072, .f32⟩
  | 17 => ⟨S131072, .f32⟩
  | 18 => ⟨S131072, .f32⟩
  | 19 => ⟨S131072, .f32⟩
  | 20 => ⟨S131072, .f32⟩
  | 21 => ⟨S131072, .f32⟩
  | 22 => ⟨S131072, .f32⟩
  | 23 => ⟨S_, .f32⟩
  | 24 => ⟨S_, .f32⟩
  | 25 => ⟨S_, .f32⟩
  | 26 => ⟨S_, .f32⟩
  | 27 => ⟨S131072, .f32⟩
  | 28 => ⟨S131072, .f32⟩
  | 29 => ⟨S_, .f32⟩
  | 30 => ⟨S131072, .f32⟩
  | 31 => ⟨S131072, .f32⟩
  | 32 => ⟨S_, .f32⟩
  | 33 => ⟨S131072, .f32⟩
  | 34 => ⟨S131072, .f32⟩
  | 35 => ⟨S131072, .f32⟩
  | 36 => ⟨S_, .f32⟩
  | 37 => ⟨S131072, .f32⟩
  | 38 => ⟨S131072, .f32⟩
  | 39 => ⟨S_, .f32⟩
  | 40 => ⟨S131072, .f32⟩
  | 41 => ⟨S131072, .f32⟩
  | 42 => ⟨S131072, .f32⟩
  | 43 => ⟨S_, .f32⟩
  | 44 => ⟨S131072, .f32⟩
  | 45 => ⟨S131072, .f32⟩
  | 46 => ⟨S131072, .f32⟩
  | 47 => ⟨S131072, .f32⟩
  | 48 => ⟨S131072, .f32⟩
  | 49 => ⟨S131072, .f32⟩
  | 50 => ⟨S_, .f32⟩
  | 51 => ⟨S_, .f32⟩
  | 52 => ⟨S_, .f32⟩
  | 53 => ⟨S_, .f32⟩
  | _ => ⟨S131072x256, .f32⟩

abbrev hbmTy (i : Nat) : BufTy := match i / 128 with
  | 0 => hbmTy0_0 i
  | 1 => hbmTy0_1 i
  | _ => ⟨S131072x256, .f32⟩

abbrev bufTy : (tb : Table) → Fin (tcTables nBuf tb) → BufTy
  | .hbm, ⟨i, _⟩ => hbmTy i
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_7 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_9 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_11 : Ref sig .tc := ⟨.hbm, 98, rfl⟩
abbrev main_v80 : Ref sig .tc := ⟨.hbm, 99, rfl⟩
abbrev main_v81 : Ref sig .tc := ⟨.hbm, 100, rfl⟩
abbrev main_cst_12 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_13 : Ref sig .tc := ⟨.hbm, 109, rfl⟩
abbrev main_v89 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_15 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_cst_16 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_cst_17 : Ref sig .tc := ⟨.hbm, 151, rfl⟩
abbrev main_cst_18 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_cst_19 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_cst_20 : Ref sig .tc := ⟨.hbm, 164, rfl⟩
abbrev main_v137 : Ref sig .tc := ⟨.hbm, 165, rfl⟩
abbrev main_v138 : Ref sig .tc := ⟨.hbm, 166, rfl⟩
abbrev main_cst_21 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_22 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_23 : Ref sig .tc := ⟨.hbm, 178, rfl⟩
abbrev main_v148 : Ref sig .tc := ⟨.hbm, 179, rfl⟩
abbrev main_cst_24 : Ref sig .tc := ⟨.hbm, 180, rfl⟩
abbrev main_v149 : Ref sig .tc := ⟨.hbm, 181, rfl⟩

abbrev nD : Nat := 1
abbrev τ : Topo := Topo.v7x

variable {F : FTy → Type} [FloatOps F]
-- ==== Proof.Tiles.lean ====
module

public import proofs.«01_k».proof.Proof.Gen.KernelIdeal.Skeleton
public import Idealize.ShloMosaic.PureOps.Ideal.Laws
public import Idealize.ShloMosaic.Lib.Pipeline.Value
public import Idealize.ShloMosaic.Lib.Pointwise

/-!
# The kernel's row sums of a block

A block holds 4096 rows of 256 entries. The kernel folds the two halves of a row onto each other, cuts the 4096 × 128
result into 32 tiles of 128 rows, transposes each tile, sums it over its first axis and stacks the 32 rows of sums. Entry
`(g, l)` of the stack is the sum of row `128·g + l` of the block. The kernel does so for seven quantities; here the
construction is written once.
-/

@[expose] public section

set_option maxRecDepth 16384

noncomputable section

namespace Cert.Triplet

open Cert.KernelIdeal Cert.KernelIdeal.Gen Idealize.ShloMosaic
open scoped BigOperators

variable {F : FTy → Type} [FloatOps F] [Named F]

/-- The two halves of each row added. -/
def halves (v : FVec F S4096x256 .f32) : FVec F S4096x128 .f32 :=
  addf (extractStridedSlice S4096x128 ![0, 0] v) (extractStridedSlice S4096x128 ![0, 128] v)

/-- Tile `g` lies in the block. -/
theorem tile_slices (g : ℕ) (h : g < 32) : S4096x128.Slices ![128 * g, 0] S128x128 := by
  refine ⟨rfl, fun a => ?_⟩
  match a with
  | ⟨0, _⟩ => show 128 * g + 128 ≤ 4096; omega
  | ⟨1, _⟩ => show 0 + 128 ≤ 128; omega

/-- The sums of the 128 rows of tile `g`. -/
def tilePart (f : FVec F S4096x128 .f32) (g : ℕ) (h : g < 32) : FVec F S1x128 .f32 :=
  shapeCast S1x128
    (multiReduction .add [0] S128
      (transpose S128x128 [1, 0] (extractStridedSlice S128x128 ![128 * g, 0] f (tile_slices g h)))
      0x00000000#32 (by decide) (.inl rfl) rfl)

/-- Thirty-two rows stacked make the dense array. -/
theorem stack_fits : Shape.Concatenates (List.replicate 32 S1x128) S32x128 0 := by decide

/-- The 32 rows of sums, stacked. -/
def tileSums (f : FVec F S4096x128 .f32) : FVec F S32x128 .f32 :=
  concatenate S32x128 0
    [⟨S1x128, tilePart f 0 (by omega)⟩, ⟨S1x128, tilePart f 1 (by omega)⟩, ⟨S1x128, tilePart f 2 (by omega)⟩, ⟨S1x128, tilePart f 3 (by omega)⟩,
      ⟨S1x128, tilePart f 4 (by omega)⟩, ⟨S1x128, tilePart f 5 (by omega)⟩, ⟨S1x128, tilePart f 6 (by omega)⟩, ⟨S1x128, tilePart f 7 (by omega)⟩,
      ⟨S1x128, tilePart f 8 (by omega)⟩, ⟨S1x128, tilePart f 9 (by omega)⟩, ⟨S1x128, tilePart f 10 (by omega)⟩, ⟨S1x128, tilePart f 11 (by omega)⟩,
      ⟨S1x128, tilePart f 12 (by omega)⟩, ⟨S1x128, tilePart f 13 (by omega)⟩, ⟨S1x128, tilePart f 14 (by omega)⟩, ⟨S1x128, tilePart f 15 (by omega)⟩,
      ⟨S1x128, tilePart f 16 (by omega)⟩, ⟨S1x128, tilePart f 17 (by omega)⟩, ⟨S1x128, tilePart f 18 (by omega)⟩, ⟨S1x128, tilePart f 19 (by omega)⟩,
      ⟨S1x128, tilePart f 20 (by omega)⟩, ⟨S1x128, tilePart f 21 (by omega)⟩, ⟨S1x128, tilePart f 22 (by omega)⟩, ⟨S1x128, tilePart f 23 (by omega)⟩,
      ⟨S1x128, tilePart f 24 (by omega)⟩, ⟨S1x128, tilePart f 25 (by omega)⟩, ⟨S1x128, tilePart f 26 (by omega)⟩, ⟨S1x128, tilePart f 27 (by omega)⟩,
      ⟨S1x128, tilePart f 28 (by omega)⟩, ⟨S1x128, tilePart f 29 (by omega)⟩, ⟨S1x128, tilePart f 30 (by omega)⟩, ⟨S1x128, tilePart f 31 (by omega)⟩]
    stack_fits

/-- The squared magnitudes of `a + ib`, entry by entry. -/
def sqMag (a b : FVec F S4096x256 .f32) : FVec F S4096x256 .f32 := addf (mulf a a) (mulf b b)

/-- The real parts of `(a + ib) · conj (c + id)`, entry by entry. -/
def prodRe (a b c d : FVec F S4096x256 .f32) : FVec F S4096x256 .f32 := addf (mulf a c) (mulf b d)

/-- The imaginary parts of `(a + ib) · conj (c + id)`, entry by entry. -/
def prodIm (a b c d : FVec F S4096x256 .f32) : FVec F S4096x256 .f32 := subf (mulf b c) (mulf a d)

/-- What one grid point leaves in the output block, from the seven stacks of row sums and the block's contents before. -/
def pointOut (aa pp nn apRe apIm anRe anIm : FVec F S32x128 .f32) (acc : Vec F S1x128 .f32) : Vec F S1x128 .f32 :=
  k0_pay231 (k0_pay220 apRe apIm (k0_pay209 aa) (k0_pay210 pp) (Scalar.ofBits .f32 0x322BCC77#32))
    (k0_pay221 (k0_pay218 apRe apIm (k0_pay209 aa) (k0_pay210 pp) (Scalar.ofBits .f32 0x322BCC77#32))
      (k0_pay219 apRe apIm (k0_pay209 aa) (k0_pay210 pp) (Scalar.ofBits .f32 0x322BCC77#32)))
    (k0_pay229 anRe anIm (k0_pay212 nn (k0_pay209 aa))) (k0_pay230 anRe anIm (k0_pay212 nn (k0_pay209 aa))) acc

/-- What one grid point leaves in the output block, from its six input blocks and the block's contents before. -/
def blockOut (ar ai pr pi nr ni : Vec F S4096x256 .f32) (acc : Vec F S1x128 .f32) : Vec F S1x128 .f32 :=
  pointOut (tileSums (halves (sqMag ar ai))) (tileSums (halves (sqMag pr pi))) (tileSums (halves (sqMag nr ni)))
    (tileSums (halves (prodRe ar ai pr pi))) (tileSums (halves (prodIm ar ai pr pi)))
    (tileSums (halves (prodRe ar ai nr ni))) (tileSums (halves (prodIm ar ai nr ni))) acc

/-- Entry `l` of tile `g`'s row of sums, over the extended reals. -/
theorem tilePart_apply (f : FVec Ideal S4096x128 .f32) (g : ℕ) (h : g < 32) (j : S1x128.Idx) :
    tilePart f g h j = ∑ k : Fin 128, f (ix2 ⟨128 * g + (j 1).val, by have : (j 1).val < 128 := (j 1).isLt; omega⟩ k) := by
  idx_vars j
  unfold tilePart
  pointwise

/-- Entry `(g, l)` of the stack is the sum of row `128·g + l`. -/
theorem tileSums_apply (f : FVec Ideal S4096x128 .f32) (g : Fin 32) (l : Fin 128) :
    tileSums f (ix2 g l) = ∑ k : Fin 128, f (ix2 ⟨128 * g.val + l.val, by omega⟩ k) := by
  have hcat : tileSums f = concatenate S32x128 0
      (List.ofFn fun n : Fin 32 => (⟨S1x128, tilePart f n.val n.isLt⟩ : (s : Shape) × (s.Idx → EReal))) stack_fits := rfl
  refine (congrFun hcat _).trans ((concatenate_ofFn_unit_apply (t := S32x128) (s₁ := S1x128) (0 : Fin 2)
    (fun n : Fin 32 => tilePart f n.val n.isLt) stack_fits rfl rfl (ix2 g l) g rfl (ix2 0 l) (fun b hb => ?_)).trans
      (tilePart_apply f g.val g.isLt (ix2 0 l)))
  match b with
  | ⟨0, _⟩ => exact absurd rfl hb
  | ⟨1, _⟩ => rfl

end Cert.Triplet

end
-- ==== Proof.Point.lean ====
module

public import proofs.«01_k».proof.Proof.Gen.KernelIdeal.Frame
public import proofs.«01_k».proof.Proof.Tiles

/-!
# What one grid point leaves in the output block

The first point stores zeros and then adds its own share to them; every later point adds its share to what the point
before it left.
-/

@[expose] public section

set_option maxRecDepth 16384

noncomputable section

namespace Cert.Triplet

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

/-- Offsets of zero on both axes. -/
theorem off_zero : (![0, 0] : Fin 2 → Nat) = fun _ => 0 :=
  funext fun a => match a with
    | ⟨0, _⟩ => rfl
    | ⟨1, _⟩ => rfl

/-- A whole block that holds `x` is read as `x`. -/
theorem whole_read {arg : Memref sig .tc .vmem S4096x256 .f32} (h : arg.IsWhole) (x : Vec F S4096x256 .f32)
    (inb : ∀ a, (![0, 0] : Fin 2 → Nat) a + S4096x256.size a ≤ S4096x256.size a) :
    View.readAt (Elt F) arg.view (Rect.unit ![0, 0] S4096x256.size inb).toLoadRect (h.unread x) = x := by
  rw [View.readAt_eq_ld, h.read_unread, View.ld_unit_zero (S := S4096x256) off_zero]

/-- A whole output block that holds `x` is read as `x`. -/
theorem whole_read_acc {arg : Memref sig .tc .vmem S1x128 .f32} (h : arg.IsWhole) (x : Vec F S1x128 .f32)
    (inb : ∀ a, (![0, 0] : Fin 2 → Nat) a + S1x128.size a ≤ S1x128.size a) :
    View.readAt (Elt F) arg.view (Rect.unit ![0, 0] S1x128.size inb).toLoadRect (h.unread x) = x := by
  rw [View.readAt_eq_ld, h.read_unread, View.ld_unit_zero (S := S1x128) off_zero]

/-- What grid point `t` makes of an output block, from its six input blocks. -/
def share (c : Dev nD) (t : Fin cfg0.N) (acc : Vec F S1x128 .f32) : Vec F S1x128 .f32 :=
  blockOut (iblk m c 0 t) (iblk m c 1 t) (iblk m c 2 t) (iblk m c 3 t) (iblk m c 4 t) (iblk m c 5 t) acc

end Cert.Triplet

end
-- ==== Proof.FirstPoint.lean ====
module

public import proofs.«01_k».proof.Proof.Point

/-!
# The first grid point: zeros are stored, then its share is added
-/

@[expose] public section

set_option maxRecDepth 16384

noncomputable section

namespace Cert.Triplet

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

variable {i : grid0.Coords} {a0 a1 a2 a3 a4 a5 : Memref sig .tc .vmem S4096x256 .f32} {a6 : Memref sig .tc .vmem S1x128 .f32}
variable {h0 : a0.IsWhole} {h1 : a1.IsWhole} {h2 : a2.IsWhole} {h3 : a3.IsWhole} {h4 : a4.IsWhole} {h5 : a5.IsWhole}
variable {h6 : a6.IsWhole} (c : Dev nD) (ar ai pr pi nr ni : Vec F S4096x256 .f32)

set_option maxHeartbeats 0 in
/-- At a first point the output block ends as the point's share over zeros, wherever the blocks lie. -/
theorem first_block {hc : cond0_0 i} :
    out0_A_6 c i a0 h0 a1 h1 a2 h2 a3 h3 a4 h4 a5 h5 a6 h6 hc ar ai pr pi nr ni
      = blockOut ar ai pr pi nr ni k0_pay1 := by
  unfold out0_A_6
  rw [View.read_writes_eq_canon _ _ _ (fun y => cover0_A_6 _ _ _ _ _ _ _ _ _ _ _ _ _ _ _ _ _ _ _ _ _ _ _ y)]
  unfold kernelRun0_A
  dsimp only
  sl_unfold_words
  rw [View.canon_cons_unit_zero (S := S1x128) off_zero, View.readCov_unit_zero (S := S1x128) _ off_zero]
  rw [whole_read h0, whole_read h1, whole_read h2, whole_read h3, whole_read h4, whole_read h5]
  unfold blockOut pointOut
  rfl

/-- After the first point the block holds its share over zeros. -/
theorem first_point (t : Fin cfg0.N) (h : t.val % 32 = 0) : outsAt0 m c t.val t.isLt = share m c t k0_pay1 :=
  (outsAt0_A m c t h).trans (first_block ..)

end Cert.Triplet

end
-- ==== Proof.LaterPoint.lean ====
module

public import proofs.«01_k».proof.Proof.Point

/-!
# A later grid point: its share is added to what the point before it left
-/

@[expose] public section

set_option maxRecDepth 16384

noncomputable section

namespace Cert.Triplet

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ)

variable {i : grid0.Coords} {a0 a1 a2 a3 a4 a5 : Memref sig .tc .vmem S4096x256 .f32} {a6 : Memref sig .tc .vmem S1x128 .f32}
variable {h0 : a0.IsWhole} {h1 : a1.IsWhole} {h2 : a2.IsWhole} {h3 : a3.IsWhole} {h4 : a4.IsWhole} {h5 : a5.IsWhole}
variable {h6 : a6.IsWhole} (c : Dev nD) (ar ai pr pi nr ni : Vec F S4096x256 .f32) (acc : Vec F S1x128 .f32)

set_option maxHeartbeats 0 in
/-- At a later point the output block ends as the point's share over what it held, wherever the blocks lie. -/
theorem later_block {hc : ¬cond0_0 i} :
    out0_B_6 c i a0 h0 a1 h1 a2 h2 a3 h3 a4 h4 a5 h5 a6 h6 hc ar ai pr pi nr ni acc
      = blockOut ar ai pr pi nr ni acc := by
  unfold out0_B_6
  rw [View.read_writes_eq_canon _ _ _ (fun y => cover0_B_6 _ _ _ _ _ _ _ _ _ _ _ _ _ _ _ _ _ _ _ _ _ _ _ _ y)]
  unfold kernelRun0_B
  dsimp only
  sl_unfold_words
  rw [View.canon_unit_zero off_zero]
  rw [whole_read h0, whole_read h1, whole_read h2, whole_read h3, whole_read h4, whole_read h5, whole_read_acc h6]
  unfold blockOut pointOut
  rfl

/-- A later point makes its share over what the point before it left. -/
theorem later_point (t : Fin cfg0.N) (h : ¬t.val % 32 = 0) :
    outsAt0 m c t.val t.isLt
      = share m c t (outsAt0 m c (t.val - 1) (Nat.lt_of_le_of_lt (Nat.sub_le _ _) t.isLt)) :=
  (outsAt0_B m c t h).trans (later_block ..)

end Cert.Triplet

end
-- ==== Proof.ArcCosine.lean ====
module

public import Idealize.ShloMosaic.PureOps.Ideal
public import Idealize.ShloMosaic.PureOps.Ideal.Laws
public import Mathlib.Analysis.SpecialFunctions.Trigonometric.Arctan

/-!
# The complex arc cosine on the closed unit disc, written twice

`arccos z = -i log (z + i √(1 - z²))` for `z = x + iy`. The reference takes the complex root in polar form, by the
half angle; the kernel takes it in closed form, by two real roots and a sign. On the closed unit disc `1 - z²` has a
nonnegative real part, the two roots are the same number, and both forms give the same real pair.
-/

@[expose] public section

noncomputable section

namespace Cert.Triplet

open Idealize.ShloMosaic

/-! ### The two forms, over the extended reals -/

/-- The real part of `1 - z²`. -/
def wRe (x y : EReal) : EReal := 1 - (x * x - y * y)

/-- The imaginary part of `1 - z²`, as the kernel multiplies it out. -/
def wIm (x y : EReal) : EReal := ((-2 : ℝ) : EReal) * x * y

/-- `|1 - z²|` in the kernel. -/
def wAbs (x y : EReal) : EReal := Ideal.sqrt (wRe x y * wRe x y + wIm x y * wIm x y)

/-- The real part of `z + i √(1 - z²)` in the kernel: `x` less the imaginary part of the root. -/
def closedRe (x y : EReal) : EReal :=
  x - Ideal.sign (wIm x y) * Ideal.sqrt (max ((wAbs x y - wRe x y) * ((1 / 2 : ℝ) : EReal)) 0)

/-- The imaginary part of `z + i √(1 - z²)` in the kernel: `y` plus the real part of the root. -/
def closedIm (x y : EReal) : EReal :=
  y + Ideal.sqrt (max ((wAbs x y + wRe x y) * ((1 / 2 : ℝ) : EReal)) 0)

/-- The real part of the kernel's arc cosine. -/
def closedArcRe (x y : EReal) : EReal := Ideal.atan2 (closedIm x y) (closedRe x y)

/-- The imaginary part of the kernel's arc cosine. -/
def closedArcIm (x y : EReal) : EReal :=
  ((-(1 / 2) : ℝ) : EReal) * Ideal.log (closedRe x y * closedRe x y + closedIm x y * closedIm x y)

/-- The imaginary part of `1 - z²` in the reference. -/
def vIm (x y : EReal) : EReal := -(x * y + y * x)

/-- The modulus of the reference's root. -/
def rootAbs (x y : EReal) : EReal := Ideal.sqrt (Ideal.sqrt (wRe x y * wRe x y + vIm x y * vIm x y))

/-- The angle of the reference's root. -/
def rootArg (x y : EReal) : EReal := Ideal.div (Ideal.atan2 (vIm x y) (wRe x y)) ((2 : ℝ) : EReal)

/-- The real part of `z + i √(1 - z²)` in the reference. -/
def polarRe (x y : EReal) : EReal := x - rootAbs x y * Ideal.sin (rootArg x y)

/-- The imaginary part of `z + i √(1 - z²)` in the reference. -/
def polarIm (x y : EReal) : EReal := y + rootAbs x y * Ideal.cos (rootArg x y)

/-- The real part of the reference's arc cosine. -/
def polarArcRe (x y : EReal) : EReal := Ideal.atan2 (polarIm x y) (polarRe x y)

/-- The imaginary part of the reference's arc cosine. -/
def polarArcIm (x y : EReal) : EReal :=
  -Ideal.log (Ideal.sqrt (polarRe x y * polarRe x y + polarIm x y * polarIm x y))

/-! ### Real facts -/

/-- The ideal square root of a nonnegative real. -/
theorem sqrt_of_nonneg {r : ℝ} (h : 0 ≤ r) : Ideal.sqrt (r : EReal) = ((Real.sqrt r : ℝ) : EReal) := by
  rw [Ideal.sqrt_coe, if_neg (not_lt.mpr h)]

/-- The angle of a point of the closed right half plane lies between `-π/2` and `π/2`, and its cosine and sine times
    the point's modulus are the point's coordinates. -/
theorem angle_right (a b : ℝ) (ha : 0 ≤ a) :
    ∃ θ : ℝ, Ideal.atan2 (b : EReal) (a : EReal) = (θ : EReal) ∧ -(Real.pi / 2) ≤ θ ∧ θ ≤ Real.pi / 2
      ∧ Real.sqrt (a * a + b * b) * Real.cos θ = a ∧ Real.sqrt (a * a + b * b) * Real.sin θ = b := by
  have hpi := Real.pi_pos
  rcases ha.lt_or_eq with h | h
  · refine ⟨Real.arctan (b / a), ?_, (Real.neg_pi_div_two_lt_arctan _).le, (Real.arctan_lt_pi_div_two _).le, ?_⟩
    · exact congrArg Real.toEReal (if_pos h)
    · have hs : Real.sqrt (a * a + b * b) = a * Real.sqrt (1 + (b / a) ^ 2) := by
        rw [show a * a + b * b = a ^ 2 * (1 + (b / a) ^ 2) by field_simp, Real.sqrt_mul (sq_nonneg a),
          Real.sqrt_sq ha]
      have hp : 0 < Real.sqrt (1 + (b / a) ^ 2) := Real.sqrt_pos.mpr (by positivity)
      rw [hs, Real.cos_arctan, Real.sin_arctan]
      constructor <;> field_simp
  · subst h
    rcases lt_trichotomy b 0 with hb | hb | hb
    · refine ⟨-(Real.pi / 2), ?_, le_refl _, by linarith, ?_⟩
      · exact congrArg Real.toEReal ((if_neg (lt_irrefl 0)).trans ((if_neg (lt_irrefl 0)).trans ((if_neg (not_lt.mpr hb.le)).trans (if_pos hb))))
      · have : Real.sqrt (0 * 0 + b * b) = -b := by
          rw [zero_mul, zero_add, Real.sqrt_mul_self_eq_abs, abs_of_neg hb]
        rw [this]; simp
    · subst hb
      refine ⟨0, ?_, by linarith, by linarith, ?_⟩
      · exact congrArg Real.toEReal ((if_neg (lt_irrefl 0)).trans ((if_neg (lt_irrefl 0)).trans ((if_neg (lt_irrefl 0)).trans (if_neg (lt_irrefl 0)))))
      · simp
    · refine ⟨Real.pi / 2, ?_, by linarith, le_refl _, ?_⟩
      · exact congrArg Real.toEReal ((if_neg (lt_irrefl 0)).trans ((if_neg (lt_irrefl 0)).trans (if_pos hb)))
      · have : Real.sqrt (0 * 0 + b * b) = b := by
          rw [zero_mul, zero_add, Real.sqrt_mul_self hb.le]
        rw [this]; simp

/-- The root's real part, in polar and in closed form. -/
theorem half_cos {r a θ : ℝ} (hr : 0 ≤ r) (h1 : -(Real.pi / 2) ≤ θ) (h2 : θ ≤ Real.pi / 2)
    (hc : r * Real.cos θ = a) : Real.sqrt r * Real.cos (θ / 2) = Real.sqrt ((r + a) * (1 / 2)) := by
  have hpi := Real.pi_pos
  rw [Real.cos_half (by linarith) (by linarith), ← Real.sqrt_mul hr, ← hc]
  congr 1; ring

/-- The root's imaginary part, in polar and in closed form. -/
theorem half_sin {r a b θ : ℝ} (hr : 0 ≤ r) (h1 : -(Real.pi / 2) ≤ θ) (h2 : θ ≤ Real.pi / 2)
    (hc : r * Real.cos θ = a) (hs : r * Real.sin θ = b) :
    Real.sqrt r * Real.sin (θ / 2) = (SignType.sign b : ℝ) * Real.sqrt ((r - a) * (1 / 2)) := by
  have hpi := Real.pi_pos
  have key : ∀ c : ℝ, c = 1 - Real.cos θ → Real.sqrt r * Real.sqrt (c / 2) = Real.sqrt ((r - a) * (1 / 2)) := by
    intro c h
    rw [← Real.sqrt_mul hr, ← hc, h]; congr 1; ring
  rcases lt_trichotomy b 0 with hb | hb | hb
  · have hθ : θ ≤ 0 := by
      by_contra hn
      have := Real.sin_nonneg_of_nonneg_of_le_pi (not_le.mp hn).le (by linarith)
      nlinarith
    rw [Real.sin_half_eq_neg_sqrt (by linarith) hθ, sign_neg hb, mul_neg, key _ rfl]; simp
  · have h0 : Real.sqrt r * Real.sin (θ / 2) = 0 := by
      rcases hr.eq_or_lt with h | h
      · simp [← h]
      · have hsin : Real.sin θ = 0 := by
          rcases mul_eq_zero.mp (hs.trans hb) with h' | h'
          · exact absurd h' h.ne'
          · exact h'
        have : θ = 0 := (Real.sin_eq_zero_iff_of_lt_of_lt (by linarith) (by linarith)).mp hsin
        simp [this]
    rw [h0, hb]; simp
  · have hθ : 0 ≤ θ := by
      by_contra hn
      have := Real.sin_nonpos_of_nonpos_of_neg_pi_le (not_le.mp hn).le (by linarith)
      nlinarith
    rw [Real.sin_half_eq_sqrt hθ (by linarith), sign_pos hb, key _ rfl]; simp

/-- The squares of the root's two parts differ by the real part of `1 - z²`. -/
theorem root_sq_sub {r a b : ℝ} (hr : r = Real.sqrt (a * a + b * b)) :
    Real.sqrt ((r + a) * (1 / 2)) ^ 2 - ((SignType.sign b : ℝ) * Real.sqrt ((r - a) * (1 / 2))) ^ 2 = a ∨ a < 0 := by
  rcases lt_or_ge a 0 with ha | ha
  · exact Or.inr ha
  left
  have hra : a ≤ r := by
    rw [hr]; exact Real.le_sqrt_of_sq_le (by nlinarith [mul_self_nonneg b])
  rw [mul_pow, Real.sq_sqrt (by nlinarith), Real.sq_sqrt (by nlinarith)]
  rcases lt_trichotomy b 0 with hb | hb | hb
  · rw [sign_neg hb]; simp; ring
  · subst hb
    have : r = a := by rw [hr, mul_zero, add_zero, Real.sqrt_mul_self ha]
    rw [this]; simp; ring
  · rw [sign_pos hb]; simp; ring

/-! ### The two forms agree -/

/-- On the closed unit disc the kernel's and the reference's arc cosine are one and the same pair of real numbers. -/
theorem arc_agree (x y : ℝ) (h : x * x + y * y ≤ 1) :
    ∃ p q : ℝ, closedArcRe x y = (p : EReal) ∧ closedArcIm x y = (q : EReal)
      ∧ polarArcRe x y = (p : EReal) ∧ polarArcIm x y = (q : EReal) := by
  set a : ℝ := 1 - (x * x - y * y) with ha
  set b : ℝ := -2 * x * y with hb
  set r : ℝ := Real.sqrt (a * a + b * b) with hr
  have ha0 : 0 ≤ a := by nlinarith [mul_self_nonneg y]
  have hr0 : 0 ≤ r := Real.sqrt_nonneg _
  have hra : a ≤ r := by
    rw [hr]; exact Real.le_sqrt_of_sq_le (by nlinarith [mul_self_nonneg b])
  obtain ⟨θ, hθ, h1, h2, hc, hs⟩ := angle_right a b ha0
  rw [← hr] at hc hs
  have ew : wRe x y = (a : EReal) := by rw [wRe, ha]; norm_cast
  have ei : wIm x y = (b : EReal) := by rw [wIm, hb]; norm_cast
  have ev : vIm x y = (b : EReal) := by
    rw [vIm, show b = -(x * y + y * x) by rw [hb]; ring]; norm_cast
  have habs : wAbs x y = (r : EReal) := by
    rw [wAbs, ew, ei, ← EReal.coe_mul, ← EReal.coe_mul, ← EReal.coe_add,
      sqrt_of_nonneg (add_nonneg (mul_self_nonneg a) (mul_self_nonneg b))]
  have hroot : rootAbs x y = ((Real.sqrt r : ℝ) : EReal) := by
    rw [rootAbs, ew, ev, ← EReal.coe_mul, ← EReal.coe_mul, ← EReal.coe_add,
      sqrt_of_nonneg (add_nonneg (mul_self_nonneg a) (mul_self_nonneg b)), sqrt_of_nonneg (Real.sqrt_nonneg _)]
  have harg : rootArg x y = ((θ / 2 : ℝ) : EReal) := by
    rw [rootArg, ew, ev, hθ, Ideal.div_coe two_ne_zero, ← EReal.coe_mul]; congr 1; ring
  set s : ℝ := Real.sqrt ((r + a) * (1 / 2)) with hsr
  set t : ℝ := (SignType.sign b : ℝ) * Real.sqrt ((r - a) * (1 / 2)) with ht
  have eRe : closedRe x y = ((x - t : ℝ) : EReal) := by
    rw [closedRe, habs, ew, ei, Ideal.sign_coe, ← EReal.coe_sub, ← EReal.coe_mul,
      max_eq_left (by exact_mod_cast (by nlinarith : (0 : ℝ) ≤ (r - a) * (1 / 2))), sqrt_of_nonneg (by nlinarith),
      ← EReal.coe_mul, ← EReal.coe_sub]
  have eIm : closedIm x y = ((y + s : ℝ) : EReal) := by
    rw [closedIm, habs, ew, ← EReal.coe_add, ← EReal.coe_mul,
      max_eq_left (by exact_mod_cast (by nlinarith : (0 : ℝ) ≤ (r + a) * (1 / 2))), sqrt_of_nonneg (by nlinarith),
      ← EReal.coe_add]
  have pRe : polarRe x y = ((x - t : ℝ) : EReal) := by
    rw [polarRe, hroot, harg, Ideal.sin_coe, ← EReal.coe_mul, half_sin hr0 h1 h2 hc hs, ← EReal.coe_sub]
  have pIm : polarIm x y = ((y + s : ℝ) : EReal) := by
    rw [polarIm, hroot, harg, Ideal.cos_coe, ← EReal.coe_mul, half_cos hr0 h1 h2 hc, ← EReal.coe_add]
  -- `z + i √(1 - z²)` is never zero: its square would make `1 - z²` both `-z²` and `1 - z²`
  have hu : 0 < (x - t) * (x - t) + (y + s) * (y + s) := by
    rcases (add_nonneg (mul_self_nonneg (x - t)) (mul_self_nonneg (y + s))).lt_or_eq with h' | h'
    · exact h'
    exfalso
    have hx : x - t = 0 := by nlinarith [mul_self_nonneg (x - t), mul_self_nonneg (y + s)]
    have hy : y + s = 0 := by nlinarith [mul_self_nonneg (x - t), mul_self_nonneg (y + s)]
    rcases root_sq_sub hr with hd | hd
    · rw [← hsr, ← ht] at hd
      have e1 : t = x := by linarith
      have e2 : s = -y := by linarith
      rw [e1, e2] at hd
      nlinarith
    · linarith
  obtain ⟨p, hp⟩ : ∃ p : ℝ, Ideal.atan2 ((y + s : ℝ) : EReal) ((x - t : ℝ) : EReal) = (p : EReal) := ⟨_, rfl⟩
  refine ⟨p, -(1 / 2) * Real.log ((x - t) * (x - t) + (y + s) * (y + s)), ?_, ?_, ?_, ?_⟩
  · rw [closedArcRe, eRe, eIm, hp]
  · rw [closedArcIm, eRe, eIm, ← EReal.coe_mul, ← EReal.coe_mul, ← EReal.coe_add, Ideal.log_coe,
      if_neg (not_le.mpr hu), ← EReal.coe_mul]
  · rw [polarArcRe, pRe, pIm, hp]
  · rw [polarArcIm, pRe, pIm, ← EReal.coe_mul, ← EReal.coe_mul, ← EReal.coe_add, sqrt_of_nonneg hu.le,
      Ideal.log_coe, if_neg (not_le.mpr (Real.sqrt_pos.mpr hu)), Real.log_sqrt hu.le, ← EReal.coe_neg]
    congr 1; ring

end Cert.Triplet

end
-- ==== Proof.Row.lean ====
module

public import proofs.«01_k».proof.Proof.ArcCosine
public import Mathlib.Algebra.Order.BigOperators.Ring.Finset
public import Mathlib.Analysis.Complex.Basic

/-!
# One row of the loss

A row holds three complex vectors, an anchor, a positive and a negative, each as a real and an imaginary part. The
quotient of a complex dot product by two floored norms is always a finite number of the closed unit disc, whatever the
entries are, the infinities included. So the row's loss is a real number, and it is the same in the kernel's form (one
reciprocal, sums of squares, a product with `1/π`) as in the reference's (quotients, absolute values, a quotient by
the angle of `-1`).
-/

@[expose] public section

noncomputable section

namespace Cert.Triplet

open Idealize.ShloMosaic
open scoped BigOperators

variable {ι : Type} [Fintype ι]

/-! ### The literals -/

/-- The floor of a norm: the word the programs print for `1e-8`. -/
def eps : EReal := Ideal.ofBits .f32 0x322BCC77#32

/-- The floor of the norms is a positive real number. -/
theorem eps_real : ∃ e : ℝ, 0 < e ∧ eps = (e : EReal) := by
  refine ⟨11258999 * 2 ^ (-50 : ℤ), by positivity, ?_⟩
  simp [eps, Ideal.ofBits, Ideal.ieee, -EReal.coe_mul]

/-- The float word of `1`. -/
theorem one_word : Ideal.ofBits .f32 0x3F800000#32 = ((1 : ℝ) : EReal) := by
  simp [Ideal.ofBits, Ideal.ieee, -EReal.coe_mul]; norm_num

/-- The float word of `-1`. -/
theorem neg_one_word : Ideal.ofBits .f32 0xBF800000#32 = ((-1 : ℝ) : EReal) := by
  simp [Ideal.ofBits, Ideal.ieee, -EReal.coe_mul]; norm_num

/-- The float word of `2`. -/
theorem two_word : Ideal.ofBits .f32 0x40000000#32 = ((2 : ℝ) : EReal) := by
  simp [Ideal.ofBits, Ideal.ieee, -EReal.coe_mul]; norm_num

/-- The float word of `-2`. -/
theorem neg_two_word : Ideal.ofBits .f32 0xC0000000#32 = ((-2 : ℝ) : EReal) := by
  simp [Ideal.ofBits, Ideal.ieee, -EReal.coe_mul]; norm_num

/-- The float word of `1/2`. -/
theorem half_word : Ideal.ofBits .f32 0x3F000000#32 = ((1 / 2 : ℝ) : EReal) := by
  simp [Ideal.ofBits, Ideal.ieee, -EReal.coe_mul]; norm_num

/-- The float word of `-1/2`. -/
theorem neg_half_word : Ideal.ofBits .f32 0xBF000000#32 = ((-(1 / 2) : ℝ) : EReal) := by
  simp [Ideal.ofBits, Ideal.ieee, -EReal.coe_mul]; norm_num

/-- The kernel's weight of one row, `2⁻¹⁷`. -/
theorem weight_word : Ideal.ofBits .f32 0x37000000#32 = ((1 / 131072 : ℝ) : EReal) := by
  simp [Ideal.ofBits, Ideal.ieee, -EReal.coe_mul]; norm_num

/-- The reference's number of rows. -/
theorem rows_word : Ideal.ofBits .f32 0x48000000#32 = ((131072 : ℝ) : EReal) := by
  simp [Ideal.ofBits, Ideal.ieee, -EReal.coe_mul]; norm_num

/-! ### Dot products and norms -/

/-- The real part of `Σ u · conj v`, for `u = a + ib` and `v = c + id`. -/
def dotRe (a b c d : ι → EReal) : EReal := ∑ k, (a k * c k + b k * d k)

/-- The imaginary part of `Σ u · conj v`. -/
def dotIm (a b c d : ι → EReal) : EReal := ∑ k, (b k * c k - a k * d k)

/-- The sum of squared magnitudes of `a + ib`. -/
def sqSum (a b : ι → EReal) : EReal := ∑ k, (a k * a k + b k * b k)

/-- The kernel's floored norm, by the sum of squares. -/
def floored (a b : ι → EReal) : EReal := max (Ideal.sqrt (sqSum a b)) eps

/-- The reference's floored norm, by squares of absolute values. -/
def flooredAbs (a b : ι → EReal) : EReal :=
  max (Ideal.sqrt (∑ k, Ideal.sqrt (a k * a k + b k * b k) * Ideal.sqrt (a k * a k + b k * b k))) eps

/-- The larger of two real numbers, read in the extended reals. -/
theorem coe_max' (u v : ℝ) : max (u : EReal) (v : EReal) = ((max u v : ℝ) : EReal) :=
  (EReal.coe_strictMono.monotone.map_max).symm

/-- A square is not negative, at the infinities too. -/
theorem mul_self_nonneg' (x : EReal) : 0 ≤ x * x := by
  induction x with
  | bot => simp
  | top => simp
  | coe r => exact_mod_cast mul_self_nonneg r

/-- A sum of two squares is not negative. -/
theorem term_nonneg (x y : EReal) : 0 ≤ x * x + y * y := add_nonneg (mul_self_nonneg' x) (mul_self_nonneg' y)

/-- The square of the square root of a nonnegative extended real. -/
theorem sqrt_mul_sqrt {s : EReal} (h : 0 ≤ s) : Ideal.sqrt s * Ideal.sqrt s = s := by
  induction s with
  | bot => simp at h
  | top => simp
  | coe r =>
    have hr : 0 ≤ r := by exact_mod_cast h
    rw [sqrt_of_nonneg hr, ← EReal.coe_mul, Real.mul_self_sqrt hr]

/-- The two floored norms are equal. -/
theorem flooredAbs_eq (a b : ι → EReal) : flooredAbs a b = floored a b := by
  rw [flooredAbs, floored, sqSum]
  simp only [sqrt_mul_sqrt (term_nonneg _ _)]

/-- A sum of real numbers, read in the extended reals. -/
theorem coe_sum (f : ι → ℝ) : ((∑ k, f k : ℝ) : EReal) = ∑ k, (f k : EReal) := by
  classical
  have h : ∀ s : Finset ι, ((∑ k ∈ s, f k : ℝ) : EReal) = ∑ k ∈ s, (f k : EReal) := fun s => by
    induction s using Finset.induction_on with
    | empty => simp
    | insert k s hk ih => rw [Finset.sum_insert hk, Finset.sum_insert hk, EReal.coe_add, ih]
  exact h Finset.univ

/-- A vector whose sum of squared magnitudes is finite has finite parts. -/
theorem finite_of_sqSum {a b : ι → EReal} (h : sqSum a b ≠ ⊤) :
    (∀ k, a k ≠ ⊤ ∧ a k ≠ ⊥) ∧ ∀ k, b k ≠ ⊤ ∧ b k ≠ ⊥ := by
  have ht : ∀ k, a k * a k + b k * b k ≠ ⊤ := fun k e => h (top_le_iff.mp (e ▸
    Finset.single_le_sum (f := fun k => a k * a k + b k * b k) (fun i _ => term_nonneg _ _) (Finset.mem_univ k)))
  constructor <;> intro k <;> constructor <;> intro e <;> apply ht k <;> rw [e]
  · rw [EReal.top_mul_top]
    exact EReal.top_add_of_ne_bot (ne_of_gt (lt_of_lt_of_le EReal.bot_lt_zero (mul_self_nonneg' _)))
  · rw [EReal.bot_mul_bot]
    exact EReal.top_add_of_ne_bot (ne_of_gt (lt_of_lt_of_le EReal.bot_lt_zero (mul_self_nonneg' _)))
  · rw [EReal.top_mul_top]
    exact EReal.add_top_of_ne_bot (ne_of_gt (lt_of_lt_of_le EReal.bot_lt_zero (mul_self_nonneg' _)))
  · rw [EReal.bot_mul_bot]
    exact EReal.add_top_of_ne_bot (ne_of_gt (lt_of_lt_of_le EReal.bot_lt_zero (mul_self_nonneg' _)))

/-- A floored norm is `+∞` or a positive real number; it is `+∞` where the sum of squares is, and elsewhere its square
    is at least the sum of squares. -/
theorem floored_cases (a b : ι → EReal) :
    floored a b = ⊤ ∨ ∃ m s : ℝ, floored a b = (m : EReal) ∧ 0 < m ∧ sqSum a b = (s : EReal) ∧ 0 ≤ s ∧ s ≤ m * m := by
  obtain ⟨e, he, hE⟩ := eps_real
  have hn : 0 ≤ sqSum a b := Finset.sum_nonneg fun k _ => term_nonneg _ _
  rw [floored, hE]
  generalize sqSum a b = S at hn
  induction S with
  | bot => simp at hn
  | top => left; simp
  | coe s =>
    right
    have hs : 0 ≤ s := by exact_mod_cast hn
    refine ⟨max (Real.sqrt s) e, s, ?_, lt_max_of_lt_right he, rfl, hs, ?_⟩
    · rw [sqrt_of_nonneg hs]; exact coe_max' _ _
    · calc s = Real.sqrt s * Real.sqrt s := (Real.mul_self_sqrt hs).symm
        _ ≤ _ := mul_self_le_mul_self (Real.sqrt_nonneg _) (le_max_left _ _)

/-- The Cauchy–Schwarz inequality for complex vectors, in real and imaginary parts. -/
theorem cauchy (a b c d : ι → ℝ) :
    (∑ k, (a k * c k + b k * d k)) ^ 2 + (∑ k, (b k * c k - a k * d k)) ^ 2
      ≤ (∑ k, (a k * a k + b k * b k)) * ∑ k, (c k * c k + d k * d k) := by
  have hz : (∑ k, ((⟨a k, b k⟩ : ℂ) * ⟨c k, -d k⟩)) = ⟨∑ k, (a k * c k + b k * d k), ∑ k, (b k * c k - a k * d k)⟩ := by
    apply Complex.ext
    · rw [Complex.re_sum]; exact Finset.sum_congr rfl fun k _ => by simp
    · rw [Complex.im_sum]; exact Finset.sum_congr rfl fun k _ => by simp; ring
  have hn : ∀ p q : ℝ, ‖(⟨p, q⟩ : ℂ)‖ ^ 2 = p * p + q * q := fun p q => by
    rw [← Complex.normSq_eq_norm_sq, Complex.normSq_mk]
  have h1 : ‖∑ k, ((⟨a k, b k⟩ : ℂ) * ⟨c k, -d k⟩)‖ ≤ ∑ k, ‖(⟨a k, b k⟩ : ℂ)‖ * ‖(⟨c k, -d k⟩ : ℂ)‖ :=
    (norm_sum_le _ _).trans (Finset.sum_le_sum fun k _ => (norm_mul _ _).le)
  have h2 := pow_le_pow_left₀ (norm_nonneg _) h1 2
  have h3 := Finset.sum_mul_sq_le_sq_mul_sq Finset.univ (fun k => ‖(⟨a k, b k⟩ : ℂ)‖) (fun k => ‖(⟨c k, -d k⟩ : ℂ)‖)
  simp only [hn] at h3
  rw [hz, hn] at h2
  refine le_trans (by rw [sq, sq]; exact h2) (h3.trans (le_of_eq ?_))
  congr 1
  exact Finset.sum_congr rfl fun k _ => by ring

/-- The quotient of the complex dot product by the product of the floored norms, for every pair of vectors: the
    kernel's product with a reciprocal and the reference's quotient are one real pair of the closed unit disc. -/
theorem quotient_disc (a b c d : ι → EReal) :
    ∃ x y : ℝ, x * x + y * y ≤ 1
      ∧ dotRe a b c d * Ideal.div ((1 : ℝ) : EReal) (floored a b * floored c d) = (x : EReal)
      ∧ dotIm a b c d * Ideal.div ((1 : ℝ) : EReal) (floored a b * floored c d) = (y : EReal)
      ∧ Ideal.div (dotRe a b c d) (flooredAbs a b * flooredAbs c d) = (x : EReal)
      ∧ Ideal.div (dotIm a b c d) (flooredAbs a b * flooredAbs c d) = (y : EReal) := by
  simp only [flooredAbs_eq]
  have htop : floored a b * floored c d = ⊤ → ∃ x y : ℝ, x * x + y * y ≤ 1
      ∧ dotRe a b c d * Ideal.div ((1 : ℝ) : EReal) (floored a b * floored c d) = (x : EReal)
      ∧ dotIm a b c d * Ideal.div ((1 : ℝ) : EReal) (floored a b * floored c d) = (y : EReal)
      ∧ Ideal.div (dotRe a b c d) (floored a b * floored c d) = (x : EReal)
      ∧ Ideal.div (dotIm a b c d) (floored a b * floored c d) = (y : EReal) := by
    intro h
    refine ⟨0, 0, by norm_num, ?_⟩
    rw [h]
    simp [Ideal.div]
  rcases floored_cases a b with h | ⟨m, s, hm, hm0, hs, hs0, hsm⟩
  · apply htop
    rcases floored_cases c d with h' | ⟨m', s', hm', hm0', -⟩
    · rw [h, h', EReal.top_mul_top]
    · rw [h, hm', EReal.top_mul_coe_of_pos hm0']
  rcases floored_cases c d with h' | ⟨m', s', hm', hm0', hs', hs0', hsm'⟩
  · apply htop
    rw [hm, h', EReal.coe_mul_top_of_pos hm0]
  obtain ⟨ha, hb⟩ := finite_of_sqSum (a := a) (b := b) (by rw [hs]; exact EReal.coe_ne_top _)
  obtain ⟨hc, hd⟩ := finite_of_sqSum (a := c) (b := d) (by rw [hs']; exact EReal.coe_ne_top _)
  lift a to ι → ℝ using ha
  lift b to ι → ℝ using hb
  lift c to ι → ℝ using hc
  lift d to ι → ℝ using hd
  have eRe : dotRe (fun k => (a k : EReal)) (fun k => (b k : EReal)) (fun k => (c k : EReal)) (fun k => (d k : EReal))
      = ((∑ k, (a k * c k + b k * d k) : ℝ) : EReal) := by
    rw [dotRe, coe_sum]; exact Finset.sum_congr rfl fun k _ => by norm_cast
  have eIm : dotIm (fun k => (a k : EReal)) (fun k => (b k : EReal)) (fun k => (c k : EReal)) (fun k => (d k : EReal))
      = ((∑ k, (b k * c k - a k * d k) : ℝ) : EReal) := by
    rw [dotIm, coe_sum]; exact Finset.sum_congr rfl fun k _ => by norm_cast
  have eS : ∀ u v : ι → ℝ, sqSum (fun k => (u k : EReal)) (fun k => (v k : EReal))
      = ((∑ k, (u k * u k + v k * v k) : ℝ) : EReal) := fun u v => by
    rw [sqSum, coe_sum]; exact Finset.sum_congr rfl fun k _ => by norm_cast
  rw [eS, EReal.coe_eq_coe_iff] at hs hs'
  have hcs := cauchy a b c d
  rw [hs, hs'] at hcs
  rw [hm, hm', eRe, eIm, ← EReal.coe_mul]
  generalize (∑ k, (a k * c k + b k * d k) : ℝ) = p at hcs
  generalize (∑ k, (b k * c k - a k * d k) : ℝ) = q at hcs
  have hmm : 0 < m * m' := mul_pos hm0 hm0'
  refine ⟨p * (1 / (m * m')), q * (1 / (m * m')), ?_, ?_⟩
  · have hle : p ^ 2 + q ^ 2 ≤ (m * m') ^ 2 := hcs.trans (by
      calc s * s' ≤ (m * m) * (m' * m') := mul_le_mul hsm hsm' hs0' (mul_self_nonneg m)
        _ = (m * m') ^ 2 := by ring)
    rw [show p * (1 / (m * m')) * (p * (1 / (m * m'))) + q * (1 / (m * m')) * (q * (1 / (m * m')))
      = (p ^ 2 + q ^ 2) / (m * m') ^ 2 by field_simp]
    exact (div_le_one (by positivity)).mpr hle
  · simp only [Ideal.div_coe hmm.ne', ← EReal.coe_mul, one_mul, and_self]

/-! ### The loss of a row -/

/-- The kernel's loss from two arc cosines, with the product by `1/π`. -/
def lossOf (pRe pIm nRe nIm : EReal) : EReal :=
  Ideal.sqrt
    (max (((1 : ℝ) : EReal) + (pRe - nRe) * ((Real.pi⁻¹ : ℝ) : EReal)) 0
        * max (((1 : ℝ) : EReal) + (pRe - nRe) * ((Real.pi⁻¹ : ℝ) : EReal)) 0
      + max (((1 : ℝ) : EReal) + (pIm - nIm) * ((Real.pi⁻¹ : ℝ) : EReal)) 0
        * max (((1 : ℝ) : EReal) + (pIm - nIm) * ((Real.pi⁻¹ : ℝ) : EReal)) 0)

/-- The angle of `-1`, by which the reference divides. -/
def angleOfNegOne : EReal := Ideal.atan2 0 ((-1 : ℝ) : EReal)

/-- The angle of `-1` is `π`. -/
theorem angleOfNegOne_eq : angleOfNegOne = ((Real.pi : ℝ) : EReal) := by
  have h : (-1 : ℝ) < 0 := by norm_num
  refine (congrArg Real.toEReal ((if_neg (not_lt.mpr h.le)).trans ((if_pos h).trans (if_pos (le_refl 0))))).trans ?_
  simp

/-- The reference's loss from two arc cosines. -/
def lossOfRef (pRe pIm nRe nIm : EReal) : EReal :=
  Ideal.sqrt
    (max (((1 : ℝ) : EReal) + Ideal.div pRe angleOfNegOne - Ideal.div nRe angleOfNegOne) 0
        * max (((1 : ℝ) : EReal) + Ideal.div pRe angleOfNegOne - Ideal.div nRe angleOfNegOne) 0
      + max (((1 : ℝ) : EReal) + Ideal.div pIm angleOfNegOne - Ideal.div nIm angleOfNegOne) 0
        * max (((1 : ℝ) : EReal) + Ideal.div pIm angleOfNegOne - Ideal.div nIm angleOfNegOne) 0)

/-- The two losses of real arc cosines are one real number. -/
theorem loss_real (p q p' q' : ℝ) :
    ∃ l : ℝ, lossOf p q p' q' = (l : EReal) ∧ lossOfRef p q p' q' = (l : EReal) := by
  have hmul : ∀ u v : ℝ, max (((1 : ℝ) : EReal) + ((u : EReal) - (v : EReal)) * ((Real.pi⁻¹ : ℝ) : EReal)) 0
      = ((max (1 + (u - v) * Real.pi⁻¹) 0 : ℝ) : EReal) := fun u v => by
    rw [← EReal.coe_sub, ← EReal.coe_mul, ← EReal.coe_add]; exact coe_max' _ _
  have hdiv : ∀ u v : ℝ, max (((1 : ℝ) : EReal) + Ideal.div u angleOfNegOne - Ideal.div v angleOfNegOne) 0
      = ((max (1 + (u - v) * Real.pi⁻¹) 0 : ℝ) : EReal) := fun u v => by
    rw [angleOfNegOne_eq, Ideal.div_coe Real.pi_ne_zero, Ideal.div_coe Real.pi_ne_zero, ← EReal.coe_mul,
      ← EReal.coe_mul, ← EReal.coe_add, ← EReal.coe_sub,
      show 1 + u * (1 / Real.pi) - v * (1 / Real.pi) = 1 + (u - v) * Real.pi⁻¹ by ring]
    exact coe_max' _ _
  refine ⟨Real.sqrt (max (1 + (p - p') * Real.pi⁻¹) 0 * max (1 + (p - p') * Real.pi⁻¹) 0
    + max (1 + (q - q') * Real.pi⁻¹) 0 * max (1 + (q - q') * Real.pi⁻¹) 0), ?_, ?_⟩
  · rw [lossOf, hmul, hmul, ← EReal.coe_mul, ← EReal.coe_mul, ← EReal.coe_add,
      sqrt_of_nonneg (add_nonneg (mul_self_nonneg _) (mul_self_nonneg _))]
  · rw [lossOfRef, hdiv, hdiv, ← EReal.coe_mul, ← EReal.coe_mul, ← EReal.coe_add,
      sqrt_of_nonneg (add_nonneg (mul_self_nonneg _) (mul_self_nonneg _))]

/-- The reciprocal the kernel multiplies by, from the sums of squares of two vectors. -/
def recip (s s' : EReal) : EReal :=
  Ideal.div ((1 : ℝ) : EReal) (max (Ideal.sqrt s) eps * max (Ideal.sqrt s') eps)

/-- The kernel's loss of a row, from the row's seven sums: three sums of squares, two complex dot products. -/
def statLoss (aa pp nn apRe apIm anRe anIm : EReal) : EReal :=
  lossOf (closedArcRe (apRe * recip aa pp) (apIm * recip aa pp)) (closedArcIm (apRe * recip aa pp) (apIm * recip aa pp))
    (closedArcRe (anRe * recip aa nn) (anIm * recip aa nn)) (closedArcIm (anRe * recip aa nn) (anIm * recip aa nn))

/-- The kernel's loss of a row. -/
def rowLoss (ar ai pr pi nr ni : ι → EReal) : EReal :=
  statLoss (sqSum ar ai) (sqSum pr pi) (sqSum nr ni) (dotRe ar ai pr pi) (dotIm ar ai pr pi) (dotRe ar ai nr ni)
    (dotIm ar ai nr ni)

/-- The real part of the reference's quotient for a pair of vectors. -/
def quotRe (a b c d : ι → EReal) : EReal := Ideal.div (dotRe a b c d) (flooredAbs a b * flooredAbs c d)

/-- The imaginary part of the reference's quotient for a pair of vectors. -/
def quotIm (a b c d : ι → EReal) : EReal := Ideal.div (dotIm a b c d) (flooredAbs a b * flooredAbs c d)

/-- The reference's loss of a row. -/
def rowLossRef (ar ai pr pi nr ni : ι → EReal) : EReal :=
  lossOfRef (polarArcRe (quotRe ar ai pr pi) (quotIm ar ai pr pi)) (polarArcIm (quotRe ar ai pr pi) (quotIm ar ai pr pi))
    (polarArcRe (quotRe ar ai nr ni) (quotIm ar ai nr ni)) (polarArcIm (quotRe ar ai nr ni) (quotIm ar ai nr ni))

/-- The kernel's and the reference's loss of a row are one real number, whatever the row's entries are. -/
theorem rowLoss_real (ar ai pr pi nr ni : ι → EReal) :
    ∃ l : ℝ, rowLoss ar ai pr pi nr ni = (l : EReal) ∧ rowLossRef ar ai pr pi nr ni = (l : EReal) := by
  obtain ⟨x, y, hd, h1, h2, h3, h4⟩ := quotient_disc ar ai pr pi
  obtain ⟨x', y', hd', h1', h2', h3', h4'⟩ := quotient_disc ar ai nr ni
  obtain ⟨p, q, e1, e2, e3, e4⟩ := arc_agree x y hd
  obtain ⟨p', q', e1', e2', e3', e4'⟩ := arc_agree x' y' hd'
  obtain ⟨l, hl, hl'⟩ := loss_real p q p' q'
  refine ⟨l, ?_, ?_⟩
  · rw [← hl]
    unfold rowLoss statLoss recip
    unfold floored at h1 h2 h1' h2'
    rw [h1, h2, h1', h2', e1, e2, e1', e2']
  · rw [← hl']
    unfold rowLossRef quotRe quotIm
    rw [h3, h4, h3', h4', e3, e4, e3', e4']

end Cert.Triplet

end
-- ==== Proof.PointValue.lean ====
module

public import proofs.«01_k».proof.Proof.Tiles
public import proofs.«01_k».proof.Proof.Row

/-!
# The value of one grid point's arithmetic over the extended reals

The point's long chain of operations is read entry by entry: each of the two arc cosines is the closed form, each entry
of the loss is the loss of seven sums, and the point adds the weighted sum of the losses to the block.
-/

@[expose] public section

set_option maxRecDepth 16384

noncomputable section

namespace Cert.Triplet

open Cert.KernelIdeal Cert.KernelIdeal.Gen Idealize.ShloMosaic Idealize.ShloMosaic.TcCoe

/-! ### One arc cosine

`x` and `y` hold the two parts of a dot product and `d` what they are multiplied by. -/

section arc

variable (x y d : FVec Ideal S32x128 .f32) (j : S32x128.Idx)

/-- The real part of a quotient. -/
theorem pay222_apply : k0_pay222 x d j = x j * d j := by
  unfold k0_pay222
  pointwise

/-- The imaginary part of a quotient. -/
theorem pay223_apply : k0_pay223 y d j = y j * d j := by
  unfold k0_pay223
  pointwise

/-- The real part of `1 - z²`. -/
theorem pay224_apply : k0_pay224 x y d j = wRe (x j * d j) (y j * d j) := by
  unfold k0_pay224 wRe
  pointwise
  simp only [pay222_apply, pay223_apply]

/-- The imaginary part of `1 - z²`. -/
theorem pay225_apply : k0_pay225 x y d j = wIm (x j * d j) (y j * d j) := by
  unfold k0_pay225 wIm
  pointwise
  simp only [pay222_apply, pay223_apply, neg_two_word]

/-- The absolute value of `1 - z²`. -/
theorem pay226_apply : k0_pay226 x y d j = wAbs (x j * d j) (y j * d j) := by
  unfold k0_pay226 wAbs
  pointwise
  simp only [pay224_apply, pay225_apply]

/-- The comparisons with zero by which the kernel takes a sign. -/
theorem sign_select (v : FVec Ideal S32x128 .f32) :
    select (cmpf .ogt (absf v) (broadcast S32x128 (Scalar.ofBits .f32 0x00000000#32)))
        (select (cmpf .olt v (constant S32x128 .f32 0x00000000#32)) (constant S32x128 .f32 0xBF800000#32)
          (constant S32x128 .f32 0x3F800000#32)) v
      = fun i => Ideal.sign (v i) :=
  funext fun i => Ideal.jnp_sign_eq_sign_f32 (v i)

/-- The real part of `z + i √(1 - z²)`. -/
theorem pay227_apply : k0_pay227 x y d j = closedRe (x j * d j) (y j * d j) := by
  unfold k0_pay227 closedRe
  rw [sign_select]
  pointwise
  simp only [pay222_apply, pay224_apply, pay225_apply, pay226_apply, half_word]

/-- The imaginary part of `z + i √(1 - z²)`. -/
theorem pay228_apply : k0_pay228 x y d j = closedIm (x j * d j) (y j * d j) := by
  unfold k0_pay228 closedIm
  pointwise
  simp only [pay223_apply, pay224_apply, pay226_apply, half_word]

/-- The real part of an arc cosine, entry by entry. -/
theorem pay229_apply : k0_pay229 x y d j = closedArcRe (x j * d j) (y j * d j) := by
  unfold k0_pay229 closedArcRe
  pointwise
  simp only [pay227_apply, pay228_apply]

/-- The imaginary part of an arc cosine, entry by entry. -/
theorem pay230_apply : k0_pay230 x y d j = closedArcIm (x j * d j) (y j * d j) := by
  unfold k0_pay230 closedArcIm
  pointwise
  simp only [pay227_apply, pay228_apply, neg_half_word]

end arc

/-- The reciprocal of the product of two floored norms, entry by entry. -/
theorem pay212_apply (s s' : FVec Ideal S32x128 .f32) (j : S32x128.Idx) :
    k0_pay212 s' (k0_pay209 s) j = recip (s j) (s' j) := by
  unfold k0_pay212 k0_pay209 recip eps
  pointwise
  simp only [EReal.coe_one]

/-- The named constant is the reciprocal of `π`. -/
theorem inv_pi_named : (Named.named κ "inv_pi" 0x3EA2F983#32 : Ideal .f32) = ((Real.pi⁻¹ : ℝ) : EReal) := rfl

/-- The weighted sum of the losses of all entries is added to the block. -/
theorem pay231_apply (pRe pIm nRe nIm : FVec Ideal S32x128 .f32) (acc : Vec Ideal S1x128 .f32) (j : S1x128.Idx) :
    k0_pay231 pRe pIm nRe nIm acc j
      = acc j + (∑ g : Fin 32, ∑ l : Fin 128,
          lossOf (pRe (ix2 g l)) (pIm (ix2 g l)) (nRe (ix2 g l)) (nIm (ix2 g l))) * ((1 / 131072 : ℝ) : EReal) := by
  unfold k0_pay231 lossOf
  pointwise
  simp only [weight_word, EReal.coe_one, inv_pi_named]

/-- What a point leaves in the output block, from the seven stacks of row sums. -/
theorem pointOut_apply (aa pp nn apRe apIm anRe anIm : FVec Ideal S32x128 .f32) (acc : Vec Ideal S1x128 .f32)
    (j : S1x128.Idx) :
    pointOut aa pp nn apRe apIm anRe anIm acc j
      = acc j + (∑ g : Fin 32, ∑ l : Fin 128,
          statLoss (aa (ix2 g l)) (pp (ix2 g l)) (nn (ix2 g l)) (apRe (ix2 g l)) (apIm (ix2 g l)) (anRe (ix2 g l))
            (anIm (ix2 g l))) * ((1 / 131072 : ℝ) : EReal) := by
  have h : pointOut aa pp nn apRe apIm anRe anIm acc
      = k0_pay231 (k0_pay229 apRe apIm (k0_pay212 pp (k0_pay209 aa))) (k0_pay230 apRe apIm (k0_pay212 pp (k0_pay209 aa)))
          (k0_pay229 anRe anIm (k0_pay212 nn (k0_pay209 aa))) (k0_pay230 anRe anIm (k0_pay212 nn (k0_pay209 aa))) acc := rfl
  rw [h, pay231_apply]
  simp only [pay229_apply, pay230_apply, pay212_apply]
  rfl

/-! ### The rows of a block -/

/-- The sum of a row's two halves, added entry by entry, is the sum of the row. -/
theorem halves_sum (v : FVec Ideal S4096x256 .f32) (n : Fin 4096) :
    ∑ k : Fin 128, halves v (ix2 n k) = ∑ k : Fin 256, v (ix2 n k) := by
  refine Eq.trans ?_ (Fin.sum_univ_add (a := 128) (b := 128) fun k => v (ix2 n k)).symm
  rw [← Finset.sum_add_distrib]
  refine Finset.sum_congr rfl fun k _ => ?_
  unfold halves
  pointwise
  rfl

/-- Row `n` of a block of rows. -/
def rowOf (v : Vec Ideal S4096x256 .f32) (n : Fin 4096) : Fin 256 → EReal := fun k => v (ix2 n k)

/-- The loss of row `n` of six blocks. -/
def blockRow (ar ai pr pi nr ni : Vec Ideal S4096x256 .f32) (n : Fin 4096) : EReal :=
  rowLoss (rowOf ar n) (rowOf ai n) (rowOf pr n) (rowOf pi n) (rowOf nr n) (rowOf ni n)

/-- The stacked sums of the squared absolute values are the rows' sums of squares. -/
theorem sqMag_sums (a b : Vec Ideal S4096x256 .f32) (g : Fin 32) (l : Fin 128) :
    tileSums (F := Ideal) (halves (sqMag a b)) (ix2 g l)
      = sqSum (rowOf a ⟨128 * g.val + l.val, by omega⟩) (rowOf b ⟨128 * g.val + l.val, by omega⟩) := by
  rw [tileSums_apply, halves_sum]
  rfl

/-- The stacked sums of the products' real parts are the real parts of the rows' dot products. -/
theorem prodRe_sums (a b c d : Vec Ideal S4096x256 .f32) (g : Fin 32) (l : Fin 128) :
    tileSums (F := Ideal) (halves (prodRe a b c d)) (ix2 g l)
      = dotRe (rowOf a ⟨128 * g.val + l.val, by omega⟩) (rowOf b ⟨128 * g.val + l.val, by omega⟩)
          (rowOf c ⟨128 * g.val + l.val, by omega⟩) (rowOf d ⟨128 * g.val + l.val, by omega⟩) := by
  rw [tileSums_apply, halves_sum]
  rfl

/-- The stacked sums of the products' imaginary parts are the imaginary parts of the rows' dot products. -/
theorem prodIm_sums (a b c d : Vec Ideal S4096x256 .f32) (g : Fin 32) (l : Fin 128) :
    tileSums (F := Ideal) (halves (prodIm a b c d)) (ix2 g l)
      = dotIm (rowOf a ⟨128 * g.val + l.val, by omega⟩) (rowOf b ⟨128 * g.val + l.val, by omega⟩)
          (rowOf c ⟨128 * g.val + l.val, by omega⟩) (rowOf d ⟨128 * g.val + l.val, by omega⟩) := by
  rw [tileSums_apply, halves_sum]
  rfl

/-- A point adds to every entry of the output block the weighted sum of the losses of its 4096 rows. -/
theorem blockOut_apply (ar ai pr pi nr ni : Vec Ideal S4096x256 .f32) (acc : Vec Ideal S1x128 .f32) (j : S1x128.Idx) :
    blockOut ar ai pr pi nr ni acc j
      = acc j + (∑ g : Fin 32, ∑ l : Fin 128, blockRow ar ai pr pi nr ni ⟨128 * g.val + l.val, by omega⟩)
          * ((1 / 131072 : ℝ) : EReal) := by
  unfold blockOut
  rw [pointOut_apply]
  simp only [sqMag_sums, prodRe_sums, prodIm_sums]
  rfl

end Cert.Triplet

end
-- ==== Proof.KernelValue.lean ====
module

public import proofs.«01_k».proof.Proof.FirstPoint
public import proofs.«01_k».proof.Proof.LaterPoint
public import proofs.«01_k».proof.Proof.PointValue

/-!
# What the kernel computes over the extended reals

The grid's points read consecutive stretches of 4096 rows. The output block, and with it the result, ends holding the sum
over the points of the weighted sums of their rows' losses.
-/

@[expose] public section

set_option maxRecDepth 16384

noncomputable section

namespace Cert.Triplet

open Cert.KernelIdeal Cert.KernelIdeal.Gen Idealize.ShloMosaic Idealize.ShloMosaic.TcCoe Idealize.SL.Sem
open Idealize.ShloMosaic.Pipeline (Dat)

/-- Row `n` of a whole array. -/
def argRow (v : FVec Ideal S131072x256 .f32) (n : Fin 131072) : Fin 256 → EReal := fun k => v (ix2 n k)

/-- The kernel's loss of row `n` of six arrays. -/
def lossAt (a0 a1 a2 a3 a4 a5 : FVec Ideal S131072x256 .f32) (n : Fin 131072) : EReal :=
  rowLoss (argRow a0 n) (argRow a1 n) (argRow a2 n) (argRow a3 n) (argRow a4 n) (argRow a5 n)

/-- The sum of the losses of the 4096 rows of stretch `s`. -/
def stretch (loss : Fin 131072 → EReal) (s : Fin 32) : EReal :=
  ∑ g : Fin 32, ∑ l : Fin 128, loss ⟨4096 * s.val + (128 * g.val + l.val), by omega⟩

/-- The sum of the weighted stretches before stretch `n`. -/
def upTo (loss : Fin 131072 → EReal) (n : ℕ) : EReal :=
  ∑ s ∈ Finset.range n, if h : s < 32 then stretch loss ⟨s, h⟩ * ((1 / 131072 : ℝ) : EReal) else 0

/-- One stretch more adds that weighted stretch. -/
theorem upTo_succ (loss : Fin 131072 → EReal) (n : ℕ) (h : n < 32) :
    upTo loss (n + 1) = upTo loss n + stretch loss ⟨n, h⟩ * ((1 / 131072 : ℝ) : EReal) := by
  unfold upTo
  rw [Finset.sum_range_succ, dif_pos h]

variable (m : (ℓ : Loc nD τ sig) → Buf (Elt Ideal) ℓ) (ρ : Dev nD → PrngReg)

/-- The losses of the rows of the kernel's arguments. -/
def kernelLoss (c : Dev nD) : Fin 131072 → EReal :=
  lossAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A grid point's number is below 32. -/
theorem point_lt (t : Fin cfg0.N) : t.val < 32 := lt_of_lt_of_eq t.isLt N_0

/-! ### The input blocks -/

/-- Every input block's place: stretch `t` of the rows, all the columns. -/
theorem in_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- An index of the array that lies `n` rows of blocks down is the row and column it says. -/
theorem stretch_index (t : ℕ) (h : t < 32) (r : Fin 4096) (k : Fin 256) (p q : ℕ) (hp : p = t) (hq : q = 0)
    (i : S131072x256.Idx) (h0 : (i 0).val = p * 4096 + 1 * r.val) (h1 : (i 1).val = q * 256 + 1 * k.val) :
    i = ix2 ⟨4096 * t + r.val, by omega⟩ k := by
  subst hp hq
  funext a
  apply Fin.ext
  match a with
  | ⟨0, _⟩ => show (i 0).val = 4096 * p + r.val; omega
  | ⟨1, _⟩ => show (i 1).val = k.val; omega

/-- Row `r` of input block 0 of point `t` is row `4096·t + r` of argument 0. -/
theorem row0 (c : Dev nD) (t : Fin cfg0.N) (r : Fin 4096) :
    rowOf (iblk m c 0 t) r
      = argRow (m ((c : Thread nD τ).loc main_arg0)) ⟨4096 * t.val + r.val, by have := point_lt t; omega⟩ :=
  funext fun k => congrArg (m ((c : Thread nD τ).loc main_arg0)) (stretch_index t.val (point_lt t) r k _ _
    (in_index t).1.1 (in_index t).1.2 (((cfg0.win 0).blk t).view.emb (ix2 r k)) rfl rfl)

/-- Row `r` of input block 1 of point `t` is row `4096·t + r` of argument 1. -/
theorem row1 (c : Dev nD) (t : Fin cfg0.N) (r : Fin 4096) :
    rowOf (iblk m c 1 t) r
      = argRow (m ((c : Thread nD τ).loc main_arg1)) ⟨4096 * t.val + r.val, by have := point_lt t; omega⟩ :=
  funext fun k => congrArg (m ((c : Thread nD τ).loc main_arg1)) (stretch_index t.val (point_lt t) r k _ _
    (in_index t).2.1.1 (in_index t).2.1.2 (((cfg0.win 1).blk t).view.emb (ix2 r k)) rfl rfl)

/-- Row `r` of input block 2 of point `t` is row `4096·t + r` of argument 2. -/
theorem row2 (c : Dev nD) (t : Fin cfg0.N) (r : Fin 4096) :
    rowOf (iblk m c 2 t) r
      = argRow (m ((c : Thread nD τ).loc main_arg2)) ⟨4096 * t.val + r.val, by have := point_lt t; omega⟩ :=
  funext fun k => congrArg (m ((c : Thread nD τ).loc main_arg2)) (stretch_index t.val (point_lt t) r k _ _
    (in_index t).2.2.1.1 (in_index t).2.2.1.2 (((cfg0.win 2).blk t).view.emb (ix2 r k)) rfl rfl)

/-- Row `r` of input block 3 of point `t` is row `4096·t + r` of argument 3. -/
theorem row3 (c : Dev nD) (t : Fin cfg0.N) (r : Fin 4096) :
    rowOf (iblk m c 3 t) r
      = argRow (m ((c : Thread nD τ).loc main_arg3)) ⟨4096 * t.val + r.val, by have := point_lt t; omega⟩ :=
  funext fun k => congrArg (m ((c : Thread nD τ).loc main_arg3)) (stretch_index t.val (point_lt t) r k _ _
    (in_index t).2.2.2.1.1 (in_index t).2.2.2.1.2 (((cfg0.win 3).blk t).view.emb (ix2 r k)) rfl rfl)

/-- Row `r` of input block 4 of point `t` is row `4096·t + r` of argument 4. -/
theorem row4 (c : Dev nD) (t : Fin cfg0.N) (r : Fin 4096) :
    rowOf (iblk m c 4 t) r
      = argRow (m ((c : Thread nD τ).loc main_arg4)) ⟨4096 * t.val + r.val, by have := point_lt t; omega⟩ :=
  funext fun k => congrArg (m ((c : Thread nD τ).loc main_arg4)) (stretch_index t.val (point_lt t) r k _ _
    (in_index t).2.2.2.2.1.1 (in_index t).2.2.2.2.1.2 (((cfg0.win 4).blk t).view.emb (ix2 r k)) rfl rfl)

/-- Row `r` of input block 5 of point `t` is row `4096·t + r` of argument 5. -/
theorem row5 (c : Dev nD) (t : Fin cfg0.N) (r : Fin 4096) :
    rowOf (iblk m c 5 t) r
      = argRow (m ((c : Thread nD τ).loc main_arg5)) ⟨4096 * t.val + r.val, by have := point_lt t; omega⟩ :=
  funext fun k => congrArg (m ((c : Thread nD τ).loc main_arg5)) (stretch_index t.val (point_lt t) r k _ _
    (in_index t).2.2.2.2.2.1 (in_index t).2.2.2.2.2.2 (((cfg0.win 5).blk t).view.emb (ix2 r k)) rfl rfl)

/-! ### The output block over the grid -/

/-- A point adds its weighted stretch to every entry of the block. -/
theorem share_apply (c : Dev nD) (t : Fin cfg0.N) (acc : Vec Ideal S1x128 .f32) (j : S1x128.Idx) :
    share m c t acc j
      = acc j + stretch (kernelLoss m c) ⟨t.val, point_lt t⟩ * ((1 / 131072 : ℝ) : EReal) := by
  unfold share
  rw [blockOut_apply]
  unfold blockRow
  simp only [row0, row1, row2, row3, row4, row5]
  rfl

/-- The block the first point starts from is zero. -/
theorem start_apply (j : S1x128.Idx) : (k0_pay1 (F := Ideal)) j = 0 := by
  unfold k0_pay1
  pointwise

/-- After point `n` every entry of the block holds the sum of the weighted stretches up to `n`. -/
theorem block_after (c : Dev nD) (j : S1x128.Idx) :
    ∀ (n : ℕ) (h : n < cfg0.N), outsAt0 m c n h j = upTo (kernelLoss m c) (n + 1)
  | 0, h => by
    rw [upTo_succ _ 0 (by omega)]
    refine (congrFun (first_point m c ⟨0, h⟩ rfl) j).trans ((share_apply m c ⟨0, h⟩ _ j).trans ?_)
    rw [start_apply]
    rfl
  | n + 1, h => by
    have hn : n + 1 < 32 := lt_of_lt_of_eq h N_0
    rw [upTo_succ _ (n + 1) hn, ← block_after c j n (Nat.lt_of_succ_lt h)]
    exact (congrFun (later_point m c ⟨n + 1, h⟩ (by show ¬(n + 1) % 32 = 0; omega)) j).trans
      (share_apply m c ⟨n + 1, h⟩ _ j)

/-! ### The output array -/

/-- The output block is the whole output array at every point. -/
theorem out_index : ∀ t : Fin cfg0.N, win0_6.index t (0 : Fin 2) = 0 ∧ win0_6.index t (1 : Fin 2) = 0 :=
  (by decide +kernel : ∀ t : Fin grid0.N, _)

/-- Some point writes the block back. -/
theorem out_written : ∃ t : Fin cfg0.N, (cfg0.win 6).flush t = true :=
  (by decide +kernel : ∃ t : Fin grid0.N, win0_6.flush t = true)

/-- Every index of the output array lies in every point's output block. -/
theorem out_mem (t : Fin cfg0.N) (i : S1x128.Idx) : i ∈ ((cfg0.win 6).blk t).view.set := by
  show i ∈ ((View.whole main_v0).slice (win0_6.rect t)).set
  rw [View.set_slice_whole, Rect.mem_set_unit]
  intro a
  have h0 : (i 0).val < 1 := (i 0).isLt
  have h1 : (i 1).val < 128 := (i 1).isLt
  match a with
  | ⟨0, _⟩ =>
    show win0_6.index t (0 : Fin 2) * 1 ≤ (i 0).val ∧ (i 0).val < win0_6.index t (0 : Fin 2) * 1 + 1
    rw [(out_index t).1]; omega
  | ⟨1, _⟩ =>
    show win0_6.index t (1 : Fin 2) * 128 ≤ (i 1).val ∧ (i 1).val < win0_6.index t (1 : Fin 2) * 128 + 128
    rw [(out_index t).2]; omega

/-- The output array when the grid is done: every entry is the sum of all the weighted stretches. -/
def doneArray (c : Dev nD) : Buf (Elt Ideal) ((c : Thread nD τ).loc main_v0) := fun _ => upTo (kernelLoss m c) 32

/-- The output array ends holding the sum of all the weighted stretches everywhere. -/
theorem out_array (c : Dev nD) : (dats m 0 c).arrAt 6 cfg0.N = doneArray m c := by
  refine (dats m 0 c).arrAt_eq_of_cover 6 _ (fun t hf => ?_) fun i => ?_
  · show (cfg0.win 6).cut (grid0.coords t) ((dats m 0 c).after 6 t) = _
    rw [after0_6]
    funext y
    refine (block_after m c _ t.val t.isLt).trans ?_
    have h31 : t.val % 32 = 31 := (flush0_6 t).mp hf
    have hlt := point_lt t
    have ht : t.val + 1 = 32 := by omega
    exact congrArg (upTo (kernelLoss m c)) ht
  · obtain ⟨t, ht⟩ := out_written
    exact ⟨t, ht, out_mem t i⟩

/-! ### The result -/

/-- The kernel's result: the sum of all the weighted stretches. -/
def kernelResult (c : Dev nD) : Buf (Elt Ideal) ((c : Thread nD τ).loc main_v2) := fun _ => upTo (kernelLoss m c) 32

/-- The operations after the grid take entry `(0, 0)` of the output array: from a constant array, its constant. -/
theorem tail_result (c : Dev nD) (W : Valuation τ sig (Elt Ideal)) (h : W (Proc.devRef .tc main_v0) = doneArray m c) :
    StableHlo.after [hostOps1].flatten W (Proc.devRef .tc main_v2) = kernelResult m c := by
  simp only [List.flatten_cons, List.flatten_nil, List.append_nil]
  after_results
  rw [h]
  rfl

/-- The result after the grid and the operations behind it. -/
theorem result_after (c : Dev nD) :
    Pipeline.afterTail₀ cfgs (dats m) 0 (V0 m) [hostOps1] c main_v2 = kernelResult m c := by
  unfold Pipeline.afterTail₀
  exact tail_result m c _
    ((Pipeline.withArrays_arr spec0 launch0.win.arr_inj c (V0 m c) (fun w => (dats m 0 c).arrAt w cfg0.N) 6).trans
      (out_array m c))

/-- The kernel's run: the result, and the arguments unchanged. -/
theorem kernel_run : θ_run (defs (F := Ideal)) (onTc (τ := τ) (main (F := Ideal))) ⟨m, fun _ => 0, ρ⟩ fun r =>
    ∀ c : Dev nD,
      r.2.mem ((c : Thread nD τ).loc main_v2) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono
    (fun _ h c => ⟨((h.1 c).2 main_v2 (by decide)).trans (result_after m c), h.2 c⟩)
    (θ_run_and (run_main m ρ) (unchanged m ρ))

end Cert.Triplet

end
-- ==== Proof.ReferenceValue.lean ====
module

public import proofs.«01_k».proof.Proof.Gen.ReferenceIdeal.Run
public import proofs.«01_k».proof.Proof.Row
public import Idealize.ShloMosaic.PureOps.Ideal.Laws
public import Idealize.ShloMosaic.Lib.Pointwise

/-!
# What the reference computes over the extended reals

Each row's floored norms, quotients, arc cosines and loss are read off the reference's arrays; the result is the mean of
the rows' losses.
-/

@[expose] public section

set_option maxRecDepth 16384

noncomputable section

namespace Cert.Triplet

open Cert.ReferenceIdeal Cert.ReferenceIdeal.Gen Cert.ReferenceIdeal.Value Idealize.ShloMosaic Idealize.ShloMosaic.TcCoe Idealize.SL.Sem

/-- Row `n` of one of the reference's arrays. -/
def refRow (v : FVec Ideal S131072x256 .f32) (n : Fin 131072) : Fin 256 → EReal := fun k => v (ix2 n k)

section norms

variable (a b c d : FVec Ideal S131072x256 .f32) (n : Fin 131072)

/-- The moduli of the entries of `a + ib`. -/
def moduli : FVec Ideal S131072x256 .f32 := Host.sqrt (addf (mulf a a) (mulf b b))

/-- The rows' floored norms. -/
def norms : FVec Ideal S131072 .f32 :=
  maximumf (Host.sqrt (Host.reduceAdd (mulf (moduli a b) (moduli a b)) (constant S_ .f32 0x00000000#32)
    reducesTo_S131072x256_S131072_d1 h_S_)) (broadcastInDim S131072 ![] bcast_S_S131072 (constant S_ .f32 0x322BCC77#32))

/-- A row's floored norm. -/
theorem norms_apply : norms a b (ix1 n) = flooredAbs (refRow a n) (refRow b n) := by
  unfold norms moduli flooredAbs refRow
  pointwise
  rfl

/-- The real parts of the rows' quotients. -/
def quotsRe : FVec Ideal S131072 .f32 :=
  Host.divf (Host.reduceAdd (addf (mulf a c) (mulf b d)) (constant S_ .f32 0x00000000#32)
    reducesTo_S131072x256_S131072_d1 h_S_) (mulf (norms a b) (norms c d))

/-- The imaginary parts of the rows' quotients. -/
def quotsIm : FVec Ideal S131072 .f32 :=
  Host.divf (Host.reduceAdd (subf (mulf b c) (mulf a d)) (constant S_ .f32 0x00000000#32)
    reducesTo_S131072x256_S131072_d1 h_S_) (mulf (norms a b) (norms c d))

/-- The real part of a row's quotient. -/
theorem quotsRe_apply :
    quotsRe a b c d (ix1 n) = quotRe (refRow a n) (refRow b n) (refRow c n) (refRow d n) := by
  unfold quotsRe quotRe dotRe
  pointwise
  rw [norms_apply, norms_apply]
  rfl

/-- The imaginary part of a row's quotient. -/
theorem quotsIm_apply :
    quotsIm a b c d (ix1 n) = quotIm (refRow a n) (refRow b n) (refRow c n) (refRow d n) := by
  unfold quotsIm quotIm dotIm
  pointwise
  rw [norms_apply, norms_apply]
  rfl

end norms

section arc

variable (x y : FVec Ideal S131072 .f32) (j : S131072.Idx)

/-- The real parts of `1 - z²`. -/
def squaresRe : FVec Ideal S131072 .f32 :=
  subf (broadcastInDim S131072 ![] bcast_S_S131072 (constant S_ .f32 0x3F800000#32)) (subf (mulf x x) (mulf y y))

/-- The real part of `1 - z²`, entry by entry. -/
theorem squaresRe_apply : squaresRe x y j = wRe (x j) (y j) := by
  unfold squaresRe wRe
  pointwise

/-- The imaginary parts of `1 - z²`. -/
def squaresIm : FVec Ideal S131072 .f32 := Host.negf (addf (mulf x y) (mulf y x))

/-- The imaginary part of `1 - z²`, entry by entry. -/
theorem squaresIm_apply : squaresIm x y j = vIm (x j) (y j) := by
  unfold squaresIm vIm
  pointwise

/-- The moduli of the roots. -/
def rootsAbs : FVec Ideal S131072 .f32 :=
  Host.sqrt (Host.sqrt (addf (mulf (squaresRe x y) (squaresRe x y)) (mulf (squaresIm x y) (squaresIm x y))))

/-- The modulus of the root, entry by entry. -/
theorem rootsAbs_apply : rootsAbs x y j = rootAbs (x j) (y j) := by
  unfold rootsAbs rootAbs
  pointwise
  simp only [squaresRe_apply, squaresIm_apply]

/-- The angles of the roots. -/
def rootsArg : FVec Ideal S131072 .f32 :=
  Host.divf (Host.atan2 (squaresIm x y) (squaresRe x y))
    (broadcastInDim S131072 ![] bcast_S_S131072 (constant S_ .f32 0x40000000#32))

/-- The angle of the root, entry by entry. -/
theorem rootsArg_apply : rootsArg x y j = rootArg (x j) (y j) := by
  unfold rootsArg rootArg
  pointwise
  simp only [squaresRe_apply, squaresIm_apply, two_word]

/-- The real parts of `z + i √(1 - z²)`. -/
def insideRe : FVec Ideal S131072 .f32 := subf x (mulf (rootsAbs x y) (Host.sin (rootsArg x y)))

/-- The real part of `z + i √(1 - z²)`, entry by entry. -/
theorem insideRe_apply : insideRe x y j = polarRe (x j) (y j) := by
  unfold insideRe polarRe
  pointwise
  simp only [rootsAbs_apply, rootsArg_apply]

/-- The imaginary parts of `z + i √(1 - z²)`. -/
def insideIm : FVec Ideal S131072 .f32 := addf y (mulf (rootsAbs x y) (Host.cos (rootsArg x y)))

/-- The imaginary part of `z + i √(1 - z²)`, entry by entry. -/
theorem insideIm_apply : insideIm x y j = polarIm (x j) (y j) := by
  unfold insideIm polarIm
  pointwise
  simp only [rootsAbs_apply, rootsArg_apply]

/-- The real parts of the arc cosines. -/
def arcsRe : FVec Ideal S131072 .f32 := Host.atan2 (insideIm x y) (insideRe x y)

/-- The real part of the arc cosine, entry by entry. -/
theorem arcsRe_apply : arcsRe x y j = polarArcRe (x j) (y j) := by
  unfold arcsRe polarArcRe
  pointwise
  simp only [insideRe_apply, insideIm_apply]

/-- The imaginary parts of the arc cosines. -/
def arcsIm : FVec Ideal S131072 .f32 :=
  Host.negf (Host.log (Host.sqrt (addf (mulf (insideRe x y) (insideRe x y)) (mulf (insideIm x y) (insideIm x y)))))

/-- The imaginary part of the arc cosine, entry by entry. -/
theorem arcsIm_apply : arcsIm x y j = polarArcIm (x j) (y j) := by
  unfold arcsIm polarArcIm
  pointwise
  simp only [insideRe_apply, insideIm_apply]

end arc

/-- The angle of `-1`, as the reference computes it. -/
def angleConst : FVec Ideal S_ .f32 := Host.atan2 (constant S_ .f32 0x00000000#32) (constant S_ .f32 0xBF800000#32)

/-- The one entry of the computed angle. -/
theorem angleConst_apply (i : S_.Idx) : angleConst i = angleOfNegOne := by
  unfold angleConst angleOfNegOne
  pointwise
  simp only [neg_one_word]

/-- One part of the rows' losses: one more than the positive's share less the negative's, floored at zero. -/
def parts (p q : FVec Ideal S131072 .f32) : FVec Ideal S131072 .f32 :=
  maximumf (subf (addf (broadcastInDim S131072 ![] bcast_S_S131072 (constant S_ .f32 0x3F800000#32))
      (Host.divf p (broadcastInDim S131072 ![] bcast_S_S131072 (id angleConst))))
    (Host.divf q (broadcastInDim S131072 ![] bcast_S_S131072 (id angleConst))))
    (broadcastInDim S131072 ![] bcast_S_S131072 (constant S_ .f32 0x00000000#32))

/-- One part of the loss, entry by entry. -/
theorem parts_apply (p q : FVec Ideal S131072 .f32) (j : S131072.Idx) :
    parts p q j
      = max (((1 : ℝ) : EReal) + Ideal.div (p j) angleOfNegOne - Ideal.div (q j) angleOfNegOne) 0 := by
  unfold parts
  simp only [id]
  pointwise
  simp only [angleConst_apply, EReal.coe_one]

/-- The mean of the rows' losses, from their two parts. -/
def meanLoss (u v : FVec Ideal S131072 .f32) : FVec Ideal S_ .f32 :=
  Host.divf (Host.reduceAdd (Host.sqrt (addf (mulf u u) (mulf v v))) (constant S_ .f32 0x00000000#32)
    reducesTo_S131072_S_d0 h_S_) (constant S_ .f32 0x48000000#32)

/-- The mean is the sum over the rows divided by their number. -/
theorem meanLoss_apply (u v : FVec Ideal S131072 .f32) (i : S_.Idx) :
    meanLoss u v i
      = Ideal.div (∑ n : Fin 131072, Ideal.sqrt (u (ix1 n) * u (ix1 n) + v (ix1 n) * v (ix1 n)))
          ((131072 : ℝ) : EReal) := by
  unfold meanLoss
  pointwise
  simp only [rows_word]

/-- The reference's loss of row `n` of six arrays. -/
def refLossAt (a0 a1 a2 a3 a4 a5 : FVec Ideal S131072x256 .f32) (n : Fin 131072) : EReal :=
  rowLossRef (refRow a0 n) (refRow a1 n) (refRow a2 n) (refRow a3 n) (refRow a4 n) (refRow a5 n)

variable (m : (ℓ : Loc nD τ sig) → Buf (Elt Ideal) ℓ) (ρ : Dev nD → PrngReg)

/-- The losses of the rows of the reference's arguments. -/
def refLoss (c : Dev nD) : Fin 131072 → EReal :=
  refLossAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's result: the mean of the rows' losses. -/
def refResult (c : Dev nD) : Buf (Elt Ideal) ((c : Thread nD τ).loc main_v149) :=
  fun _ => Ideal.div (∑ n : Fin 131072, refLoss m c n) ((131072 : ℝ) : EReal)

/-- The mean over the parts built from the arguments' rows. -/
theorem composed (a0 a1 a2 a3 a4 a5 : FVec Ideal S131072x256 .f32) (i : S_.Idx) :
    meanLoss
        (parts (arcsRe (quotsRe a0 a1 a2 a3) (quotsIm a0 a1 a2 a3)) (arcsRe (quotsRe a0 a1 a4 a5) (quotsIm a0 a1 a4 a5)))
        (parts (arcsIm (quotsRe a0 a1 a2 a3) (quotsIm a0 a1 a2 a3)) (arcsIm (quotsRe a0 a1 a4 a5) (quotsIm a0 a1 a4 a5))) i
      = Ideal.div (∑ n : Fin 131072, refLossAt a0 a1 a2 a3 a4 a5 n) ((131072 : ℝ) : EReal) := by
  rw [meanLoss_apply]
  simp only [parts_apply, arcsRe_apply, arcsIm_apply, quotsRe_apply, quotsIm_apply]
  rfl

/-- The reference's run: the result, and the arguments unchanged. -/
theorem reference_run : θ_run (defs (F := Ideal)) (onTc (τ := τ) (main (F := Ideal))) ⟨m, fun _ => 0, ρ⟩ fun r =>
    ∀ c : Dev nD,
      r.2.mem ((c : Thread nD τ).loc main_v149) = refResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono
    (fun _ h c => ⟨(h c).1.trans (funext fun i => composed (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) i), (h c).2⟩)
    (Cert.ReferenceIdeal.Value.run m ρ)

end Cert.Triplet

end
-- ==== Proof.Equation.lean ====
module

public import proofs.«01_k».proof.Proof.KernelValue
public import proofs.«01_k».proof.Proof.ReferenceValue

/-!
# The two results are equal

Every row's loss is a real number, the same in the kernel and in the reference. The kernel weighs the sum of each stretch
of 4096 rows by `1 / 131072` and adds the stretches up; the reference divides the sum over all rows by `131072`.
-/

@[expose] public section

set_option maxRecDepth 16384

noncomputable section

namespace Cert.Triplet

open Idealize.ShloMosaic

/-- A row's number is its stretch's number, its tile's number in the stretch and its place in the tile. -/
theorem sum_rows (f : Fin 131072 → ℝ) :
    ∑ s : Fin 32, ∑ g : Fin 32, ∑ l : Fin 128, f ⟨4096 * s.val + (128 * g.val + l.val), by omega⟩ = ∑ n, f n := by
  have e1 : ∀ h : Fin (32 * 4096) → ℝ, ∑ n, h n = ∑ s : Fin 32, ∑ r : Fin 4096, h ⟨4096 * s.val + r.val, by omega⟩ := by
    intro h
    rw [← finProdFinEquiv.sum_comp, Fintype.sum_prod_type]
    refine Finset.sum_congr rfl fun s _ => Finset.sum_congr rfl fun r _ => congrArg h (Fin.ext ?_)
    show r.val + 4096 * s.val = 4096 * s.val + r.val
    omega
  have e2 : ∀ h : Fin (32 * 128) → ℝ, ∑ n, h n = ∑ g : Fin 32, ∑ l : Fin 128, h ⟨128 * g.val + l.val, by omega⟩ := by
    intro h
    rw [← finProdFinEquiv.sum_comp, Fintype.sum_prod_type]
    refine Finset.sum_congr rfl fun g _ => Finset.sum_congr rfl fun l _ => congrArg h (Fin.ext ?_)
    show l.val + 128 * g.val = 128 * g.val + l.val
    omega
  refine Eq.trans ?_ (e1 f).symm
  exact Finset.sum_congr rfl fun s _ => (e2 fun r => f ⟨4096 * s.val + r.val, by omega⟩).symm

/-- Of real losses the weighted stretches add up to the mean. -/
theorem upTo_eq_mean (loss : Fin 131072 → EReal) (f : Fin 131072 → ℝ) (h : ∀ n, loss n = (f n : EReal)) :
    upTo loss 32 = Ideal.div (∑ n, loss n) ((131072 : ℝ) : EReal) := by
  have hs : ∀ s : Fin 32, stretch loss s * ((1 / 131072 : ℝ) : EReal)
      = (((∑ g : Fin 32, ∑ l : Fin 128, f ⟨4096 * s.val + (128 * g.val + l.val), by omega⟩) * (1 / 131072) : ℝ) : EReal) := by
    intro s
    unfold stretch
    simp only [h, EReal.coe_mul, coe_sum]
  have hu : upTo loss 32 = ∑ s : Fin 32, stretch loss s * ((1 / 131072 : ℝ) : EReal) := by
    unfold upTo
    rw [Finset.sum_range]
    exact Finset.sum_congr rfl fun s _ => dif_pos s.isLt
  rw [hu, Finset.sum_congr rfl fun s _ => hs s, ← coe_sum, ← Finset.sum_mul, sum_rows, Ideal.div_coe (by norm_num),
    Finset.sum_congr rfl fun n _ => h n, ← coe_sum, ← EReal.coe_mul]

/-- Of equal arrays every row's two losses are one real number. -/
theorem losses_real (a0 a1 a2 a3 a4 a5 : FVec Ideal Cert.KernelIdeal.S131072x256 .f32) (n : Fin 131072) :
    ∃ l : ℝ, lossAt a0 a1 a2 a3 a4 a5 n = (l : EReal) ∧ refLossAt a0 a1 a2 a3 a4 a5 n = (l : EReal) :=
  rowLoss_real (argRow a0 n) (argRow a1 n) (argRow a2 n) (argRow a3 n) (argRow a4 n) (argRow a5 n)

/-- Of equal arrays the kernel's sum of weighted stretches is the reference's mean. -/
theorem results_agree (a0 a1 a2 a3 a4 a5 : FVec Ideal Cert.KernelIdeal.S131072x256 .f32) :
    upTo (lossAt a0 a1 a2 a3 a4 a5) 32
      = Ideal.div (∑ n : Fin 131072, refLossAt a0 a1 a2 a3 a4 a5 n) ((131072 : ℝ) : EReal) := by
  choose f hk hr using losses_real a0 a1 a2 a3 a4 a5
  rw [upTo_eq_mean _ f hk, Finset.sum_congr rfl fun n _ => (hk n).trans (hr n).symm]

end Cert.Triplet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Adequacy
public import Idealize.ShloMosaic.Init

@[expose] public section

noncomputable section

namespace Cert.Proof

open Idealize.ShloMosaic Idealize.SL.Sem

/-- The reference ends with its arguments unchanged and every counter at zero. -/
theorem reference_frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.Triplet.reference_run m ρ)

/-- The two idealizing steps keep what the kernel computes. -/
theorem steps_kept : Cert.preserves_Kernel_KernelIdeal :=
  ⟨IdealRules.sign_bit.statement .., IdealRules.named_const.statement Cert.KernelIdeal.κ "inv_pi" .f32 0x3EA2F983#32 _ rfl⟩

/-- The idealized kernel's result is the reference's, whatever the arguments are. -/
theorem equal_results : Cert.algebraic_KernelIdeal_ReferenceIdeal (hKernelIdeal := Cert.KernelIdeal.Gen.facts)
    (hReferenceIdeal := Cert.ReferenceIdeal.Gen.facts) := fun m ρ m' ρ' _ hargs =>
  ⟨Cert.Triplet.kernelResult m, Cert.Triplet.kernel_run m ρ,
    (θ_run Cert.ReferenceIdeal.defs _ _).mono (fun r h c => ⟨(h c).1.trans (by
      obtain ⟨h0, h1, h2, h3, h4, h5⟩ := hargs c
      unfold Cert.Triplet.refResult Cert.Triplet.refLoss
      rw [h0, h1, h2, h3, h4, h5]
      exact funext fun _ => (Cert.Triplet.results_agree _ _ _ _ _ _).symm), (h c).2⟩)
      (Cert.Triplet.reference_run m' ρ')⟩

/-- All the claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, steps_kept,
    equal_results⟩

end Cert.Proof

end
